-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x24x128 : Shape := ⟨4, ![2, 1024, 24, 128]⟩
abbrev S2x24 : Shape := ⟨2, ![2, 24]⟩
abbrev S2x1024x8x128 : Shape := ⟨4, ![2, 1024, 8, 128]⟩
abbrev S2x8 : Shape := ⟨2, ![2, 8]⟩
abbrev S2x24x1024x128 : Shape := ⟨4, ![2, 24, 1024, 128]⟩
abbrev S2x8x1024x128 : Shape := ⟨4, ![2, 8, 1024, 128]⟩
abbrev S2x8x128x1024 : Shape := ⟨4, ![2, 8, 128, 1024]⟩
abbrev S2x1024x3072 : Shape := ⟨3, ![2, 1024, 3072]⟩
abbrev S1x3x1024x128 : Shape := ⟨4, ![1, 3, 1024, 128]⟩
abbrev S1x1x1024x128 : Shape := ⟨4, ![1, 1, 1024, 128]⟩
abbrev S1x1x128x1024 : Shape := ⟨4, ![1, 1, 128, 1024]⟩
abbrev S1x1024x384 : Shape := ⟨3, ![1, 1024, 384]⟩
abbrev S1024x256 : Shape := ⟨2, ![1024, 256]⟩
abbrev S256x256 : Shape := ⟨2, ![256, 256]⟩
abbrev S1x1 : Shape := ⟨2, ![1, 1]⟩
abbrev S1x1x256x128 : Shape := ⟨4, ![1, 1, 256, 128]⟩
abbrev S256x128 : Shape := ⟨2, ![256, 128]⟩
abbrev S8x256 : Shape := ⟨2, ![8, 256]⟩
abbrev S32x8x256 : Shape := ⟨3, ![32, 8, 256]⟩
abbrev S256 : Shape := ⟨1, ![256]⟩
abbrev S1x256 : Shape := ⟨2, ![1, 256]⟩
abbrev S1x1x128x256 : Shape := ⟨4, ![1, 1, 128, 256]⟩
abbrev S128x256 : Shape := ⟨2, ![128, 256]⟩
abbrev S1x256x128 : Shape := ⟨3, ![1, 256, 128]⟩
abbrev S1x1x128x512 : Shape := ⟨4, ![1, 1, 128, 512]⟩
abbrev S128x512 : Shape := ⟨2, ![128, 512]⟩
abbrev S512x256 : Shape := ⟨2, ![512, 256]⟩
abbrev S1x1x128x768 : Shape := ⟨4, ![1, 1, 128, 768]⟩
abbrev S128x768 : Shape := ⟨2, ![128, 768]⟩
abbrev S768x256 : Shape := ⟨2, ![768, 256]⟩
abbrev S128x1024 : Shape := ⟨2, ![128, 1024]⟩

abbrev nBuf : Space → Nat
  | .hbm => 10
  | .vmem => 10
  | .smem => 3
  | _ => 0

abbrev bufTy : (tb : Table) → Fin (tcTables nBuf tb) → BufTy
  | .hbm, ⟨0, _⟩ => ⟨S2x1024x24x128, .fp8e4m3⟩
  | .hbm, ⟨1, _⟩ => ⟨S2x24, .f32⟩
  | .hbm, ⟨2, _⟩ => ⟨S2x1024x8x128, .fp8e4m3⟩
  | .hbm, ⟨3, _⟩ => ⟨S2x8, .f32⟩
  | .hbm, ⟨4, _⟩ => ⟨S2x1024x8x128, .fp8e4m3⟩
  | .hbm, ⟨5, _⟩ => ⟨S2x8, .f32⟩
  | .hbm, ⟨6, _⟩ => ⟨S2x24x1024x128, .fp8e4m3⟩
  | .hbm, ⟨7, _⟩ => ⟨S2x8x1024x128, .fp8e4m3⟩
  | .hbm, ⟨8, _⟩ => ⟨S2x8x128x1024, .fp8e4m3⟩
  | .hbm, ⟨9, _⟩ => ⟨S2x1024x3072, .bf16⟩
  | .local _ .vmem, ⟨0, _⟩ => ⟨S1x3x1024x128, .fp8e4m3⟩
  | .local _ .vmem, ⟨1, _⟩ => ⟨S1x3x1024x128, .fp8e4m3⟩
  | .local _ .vmem, ⟨2, _⟩ => ⟨S1x1x1024x128, .fp8e4m3⟩
  | .local _ .vmem, ⟨3, _⟩ => ⟨S1x1x1024x128, .fp8e4m3⟩
  | .local _ .vmem, ⟨4, _⟩ => ⟨S1x1x128x1024, .fp8e4m3⟩
  | .local _ .vmem, ⟨5, _⟩ => ⟨S1x1x128x1024, .fp8e4m3⟩
  | .local _ .vmem, ⟨6, _⟩ => ⟨S1x1024x384, .bf16⟩
  | .local _ .vmem, ⟨7, _⟩ => ⟨S1x1024x384, .bf16⟩
  | .local _ .vmem, ⟨8, _⟩ => ⟨S1024x256, .f32⟩
  | .local _ .vmem, ⟨9, _⟩ => ⟨S1024x256, .fp8e4m3⟩
  | .local _ .smem, ⟨0, _⟩ => ⟨S2x24, .f32⟩
  | .local _ .smem, ⟨1, _⟩ => ⟨S2x8, .f32⟩
  | .local _ .smem, ⟨2, _⟩ => ⟨S2x8, .f32⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def k0_off1 (i : grid0.Coords) (c0_i32 : BitVec 32) : Fin 2 → Nat :=
  let arg0 : BitVec 32 := BitVec.ofNat 32 (i 0).val
  let v5 : Index := Scalar.indexCast arg0
  let arg1 : BitVec 32 := BitVec.ofNat 32 (i 1).val
  let c3_i32 : BitVec 32 := 3#32
  let v3 : BitVec 32 := Scalar.muli arg1 c3_i32
  let v4 : BitVec 32 := Scalar.addi v3 c0_i32
  let v6 : Index := Scalar.indexCast v4
  ![v5.toNat, v6.toNat]
def k0_off2 (i : grid0.Coords) : Fin 2 → Nat :=
  let arg0 : BitVec 32 := BitVec.ofNat 32 (i 0).val
  let v8 : Index := Scalar.indexCast arg0
  let arg1 : BitVec 32 := BitVec.ofNat 32 (i 1).val
  let v9 : Index := Scalar.indexCast arg1
  ![v8.toNat, v9.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x1024x24x128 : Shape := ⟨4, ![2, 1024, 24, 128]⟩
abbrev S2x24 : Shape := ⟨2, ![2, 24]⟩
abbrev S2x1024x8x128 : Shape := ⟨4, ![2, 1024, 8, 128]⟩
abbrev S2x8 : Shape := ⟨2, ![2, 8]⟩
abbrev S2x24x1024x128 : Shape := ⟨4, ![2, 24, 1024, 128]⟩
abbrev S16x3072x128 : Shape := ⟨3, ![16, 3072, 128]⟩
abbrev S2x8x1024x128 : Shape := ⟨4, ![2, 8, 1024, 128]⟩
abbrev S16x1024x128 : Shape := ⟨3, ![16, 1024, 128]⟩
abbrev S16x3x1x1 : Shape := ⟨4, ![16, 3, 1, 1]⟩
abbrev S16x1x1x1 : Shape := ⟨4, ![16, 1, 1, 1]⟩
abbrev S2x1024x3072 : Shape := ⟨3, ![2, 1024, 3072]⟩
abbrev S16x3072x1024 : Shape := ⟨3, ![16, 3072, 1024]⟩
abbrev S16x3x1024x1024 : Shape := ⟨4, ![16, 3, 1024, 1024]⟩
abbrev S16x3x1024 : Shape := ⟨3, ![16, 3, 1024]⟩
abbrev S16x3x1024x1 : Shape := ⟨4, ![16, 3, 1024, 1]⟩
abbrev S16x3x1024x128 : Shape := ⟨4, ![16, 3, 1024, 128]⟩

abbrev nBuf : Space → Nat
  | .hbm => 16
  | .vmem => 7
  | .smem => 0
  | _ => 0

abbrev bufTy : (tb : Table) → Fin (tcTables nBuf tb) → BufTy
  | .hbm, ⟨0, _⟩ => ⟨S2x1024x24x128, .fp8e4m3⟩
  | .hbm, ⟨1, _⟩ => ⟨S2x24, .f32⟩
  | .hbm, ⟨2, _⟩ => ⟨S2x1024x8x128, .fp8e4m3⟩
  | .hbm, ⟨3, _⟩ => ⟨S2x8, .f32⟩
  | .hbm, ⟨4, _⟩ => ⟨S2x1024x8x128, .fp8e4m3⟩
  | .hbm, ⟨5, _⟩ => ⟨S2x8, .f32⟩
  | .hbm, ⟨6, _⟩ => ⟨S2x24x1024x128, .fp8e4m3⟩
  | .hbm, ⟨7, _⟩ => ⟨S16x3072x128, .fp8e4m3⟩
  | .hbm, ⟨8, _⟩ => ⟨S2x8x1024x128, .fp8e4m3⟩
  | .hbm, ⟨9, _⟩ => ⟨S16x1024x128, .fp8e4m3⟩
  | .hbm, ⟨10, _⟩ => ⟨S2x8x1024x128, .fp8e4m3⟩
  | .hbm, ⟨11, _⟩ => ⟨S16x1024x128, .fp8e4m3⟩
  | .hbm, ⟨12, _⟩ => ⟨S16x3x1x1, .f32⟩
  | .hbm, ⟨13, _⟩ => ⟨S16x1x1x1, .f32⟩
  | .hbm, ⟨14, _⟩ => ⟨S16x1x1x1, .f32⟩
  | .hbm, ⟨15, _⟩ => ⟨S2x1024x3072, .bf16⟩
  | .local _ .vmem, ⟨0, _⟩ => ⟨S16x3x1x1, .f32⟩
  | .local _ .vmem, ⟨1, _⟩ => ⟨S16x1x1x1, .f32⟩
  | .local _ .vmem, ⟨2, _⟩ => ⟨S16x1x1x1, .f32⟩
  | .local _ .vmem, ⟨3, _⟩ => ⟨S16x3072x128, .fp8e4m3⟩
  | .local _ .vmem, ⟨4, _⟩ => ⟨S16x1024x128, .fp8e4m3⟩
  | .local _ .vmem, ⟨5, _⟩ => ⟨S16x1024x128, .fp8e4m3⟩
  | .local _ .vmem, ⟨6, _⟩ => ⟨S2x1024x3072, .bf16⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S16x3x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tile.lean ====
/- One tile of the kernel's body: 256 query rows of one head against their `n` chunks of 256 keys, as the body runs it. The scores go to the float
   scratch chunk by chunk, come back for the exponentials, come back again for the codes; the codes go to the other scratch and are loaded as one
   operand. Every definition is a line or a loop of the body, at any float semantics. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe

variable {F : FTy → Type} [FloatOps F] [Named F]

/-- Rows `256c … 256c+255` of a scratch. -/
def chunk (c : ℕ) : Rect S1024x256 :=
  Rect.unit ![256 * (c % 4), 0] S256x256.size (by intro a; fin_cases a <;> simp [Shape.size] <;> omega)

/-- Head `g`'s query rows `256t …` of the query block. -/
def qBlk (a : Memref sig .tc .vmem S1x3x1024x128 .fp8e4m3) (h : a.IsWhole) (x : Vec F S1x3x1024x128 .fp8e4m3) (g t : ℕ) : FVec F S256x128 .fp8e4m3 :=
  shapeCast S256x128 (View.readAt (Elt F) a.view (Rect.unit (s := S1x3x1024x128) ![0, g % 3, 256 * (t % 4), 0] S1x1x256x128.size
    (by intro a; fin_cases a <;> simp [Shape.size] <;> omega)).toLoadRect (h.unread x)) shapeCasts_S1x1x256x128_S256x128

/-- Keys `256c …` of the key block. -/
def kBlk (a : Memref sig .tc .vmem S1x1x1024x128 .fp8e4m3) (h : a.IsWhole) (x : Vec F S1x1x1024x128 .fp8e4m3) (c : ℕ) : FVec F S256x128 .fp8e4m3 :=
  shapeCast S256x128 (View.readAt (Elt F) a.view (Rect.unit (s := S1x1x1024x128) ![0, 0, 256 * (c % 4), 0] S1x1x256x128.size
    (by intro a; fin_cases a <;> simp [Shape.size] <;> omega)).toLoadRect (h.unread x)) shapeCasts_S1x1x256x128_S256x128

/-- The scores of one chunk, key by query; on the diagonal masked. -/
def score (q : FVec F S256x128 .fp8e4m3) (k : ℕ → FVec F S256x128 .fp8e4m3) (κ : F .f32) (t c : ℕ) : FVec F S256x256 .f32 :=
  let s := mulf (matmul dot_S256x128_S256x128_S256x256_1_1_0_0_n_n none (k c) q (constant S256x256 .f32 0x00000000#32)) (broadcast S256x256 κ)
  cond (Nat.beq c t) (select k0_pay3 s (broadcast S256x256 (Scalar.ofBits .f32 0xFF800000#32))) s

/-- The score chunks stored, the first `n` of them. -/
def putS (s : ℕ → FVec F S256x256 .f32) (L : List (View.Piece (Elt F) S1024x256 .f32)) : ℕ → List (View.Piece (Elt F) S1024x256 .f32)
  | 0 => L
  | n + 1 => ⟨chunk n, shapeCast S256x256 (s n) shapeCasts_S256x256_S256x256⟩ :: putS s L n

/-- The maxima of the first `n` chunks, eight sublanes a query. -/
def max8 (s : ℕ → FVec F S256x256 .f32) : ℕ → FVec F S8x256 .f32
  | 0 => broadcast S8x256 (Scalar.ofBits .f32 0xFF800000#32)
  | n + 1 => maximumf (max8 s n) (multiReduction .maximumf [0] S8x256 (shapeCast S32x8x256 (s n) shapeCasts_S256x256_S32x8x256) 0xFF800000#32
      reduces_S32x8x256_S8x256 (.inl rfl) rfl)

/-- The maximum of the first `n` chunks, a query. -/
def rowMax (s : ℕ → FVec F S256x256 .f32) (n : ℕ) : FVec F S1x256 .f32 :=
  shapeCast S1x256 (multiReduction .maximumf [0] S256 (max8 s n) 0xFF800000#32 reduces_S8x256_S256 (.inl rfl) rfl) shapeCasts_S256_S1x256

/-- The exponentials of chunk `c`, from the scratch. -/
def expo (v : View sig .tc .vmem S1024x256 .f32) (m : FVec F S1x256 .f32) (L : List (View.Piece (Elt F) S1024x256 .f32)) (c : ℕ) : FVec F S256x256 .f32 :=
  exp2 (subf (v.readCov L (chunk c).toLoadRect) (broadcastTo S256x256 m broadcasts_S1x256_S256x256))

/-- The exponentials stored, of the first `n` chunks. -/
def putU (v : View sig .tc .vmem S1024x256 .f32) (m : FVec F S1x256 .f32) (L : List (View.Piece (Elt F) S1024x256 .f32)) :
    ℕ → List (View.Piece (Elt F) S1024x256 .f32)
  | 0 => L
  | n + 1 => ⟨chunk n, shapeCast S256x256 (expo v m (putU v m L n) n) shapeCasts_S256x256_S256x256⟩ :: putU v m L n

/-- Their sums, eight sublanes a query. -/
def sum8 (v : View sig .tc .vmem S1024x256 .f32) (m : FVec F S1x256 .f32) (L : List (View.Piece (Elt F) S1024x256 .f32)) : ℕ → FVec F S8x256 .f32
  | 0 => broadcast S8x256 (Scalar.ofBits .f32 0x00000000#32)
  | n + 1 => addf (sum8 v m L n) (multiReduction .add [0] S8x256 (shapeCast S32x8x256 (expo v m (putU v m L n) n) shapeCasts_S256x256_S32x8x256)
      0x00000000#32 reduces_S32x8x256_S8x256 (.inl rfl) rfl)

/-- Their sum, a query. -/
def rowSum (v : View sig .tc .vmem S1024x256 .f32) (m : FVec F S1x256 .f32) (L : List (View.Piece (Elt F) S1024x256 .f32)) (n : ℕ) : FVec F S1x256 .f32 :=
  shapeCast S1x256 (multiReduction .add [0] S256 (sum8 v m L n) 0x00000000#32 reduces_S8x256_S256 (.inl rfl) rfl) shapeCasts_S256_S1x256

/-- The reciprocal of the sum. -/
def recip (l : FVec F S1x256 .f32) : FVec F S1x256 .f32 := divf (broadcast S1x256 (Scalar.ofBits .f32 0x3F800000#32)) l

/-- A word shifted into the exponent's place, read as a float. -/
def pow2 (e : IVec S1x256 32) : FVec F S1x256 .f32 := bitcastToFloat .f32 (shli e (broadcast S1x256 23#32))

/-- One step of the search for the exponent field. -/
def step (y : FVec F S1x256 .f32) (k : BitVec 32) (f : IVec S1x256 32) : IVec S1x256 32 :=
  select (cmpf .ole (pow2 (addi f (broadcast S1x256 k))) y) (addi f (broadcast S1x256 k)) f

/-- The search. -/
def field (y : FVec F S1x256 .f32) : IVec S1x256 32 :=
  step y 1#32 (step y 2#32 (step y 4#32 (step y 8#32 (step y 16#32 (step y 32#32 (step y 64#32 (step y 128#32 (broadcast S1x256 0#32))))))))

/-- The row's exponent. -/
def rowExp (il : FVec F S1x256 .f32) : IVec S1x256 32 :=
  subi (field (mulf il (broadcast S1x256 (Scalar.ofBits .f32 0x3B124925#32)))) (broadcast S1x256 126#32)

/-- The row's scale. -/
def rowScale (il : FVec F S1x256 .f32) : FVec F S1x256 .f32 := pow2 (addi (rowExp il) (broadcast S1x256 127#32))

/-- The factor the row's exponentials are multiplied by to give codes. -/
def rowFactor (il : FVec F S1x256 .f32) : FVec F S1x256 .f32 :=
  minimumf (broadcast S1x256 (Scalar.ofBits .f32 0x43E00000#32)) (maximumf (broadcast S1x256 (Scalar.ofBits .f32 0xC3E00000#32))
    (mulf il (pow2 (subi (broadcast S1x256 127#32) (rowExp il)))))

/-- The codes stored, of the first `n` chunks. -/
def putC (v : View sig .tc .vmem S1024x256 .f32) (f : FVec F S1x256 .f32) (L : List (View.Piece (Elt F) S1024x256 .f32))
    (L1 : List (View.Piece (Elt F) S1024x256 .fp8e4m3)) : ℕ → List (View.Piece (Elt F) S1024x256 .fp8e4m3)
  | 0 => L1
  | n + 1 => ⟨chunk n, shapeCast S256x256 (truncf .fp8e4m3 (mulf (v.readCov L (chunk n).toLoadRect) (broadcastTo S256x256 f broadcasts_S1x256_S256x256))
      bitsLt_fp8e4m3_f32) shapeCasts_S256x256_S256x256⟩ :: putC v f L L1 n

/-- What is left in the float scratch, and the row quantities, of the tile over `n` chunks of scores `s`. -/
def tMax (s : ℕ → FVec F S256x256 .f32) (n : ℕ) : FVec F S1x256 .f32 := rowMax s n
def tPut (v : View sig .tc .vmem S1024x256 .f32) (s : ℕ → FVec F S256x256 .f32) (L : List (View.Piece (Elt F) S1024x256 .f32)) (n : ℕ) :
    List (View.Piece (Elt F) S1024x256 .f32) := putU v (rowMax s n) (putS s L n) n
def tInv (v : View sig .tc .vmem S1024x256 .f32) (s : ℕ → FVec F S256x256 .f32) (L : List (View.Piece (Elt F) S1024x256 .f32)) (n : ℕ) :
    FVec F S1x256 .f32 := recip (rowSum v (rowMax s n) (putS s L n) n)

/-- The code scratch after the tile. -/
def tCodes (v : View sig .tc .vmem S1024x256 .f32) (s : ℕ → FVec F S256x256 .f32) (L : List (View.Piece (Elt F) S1024x256 .f32))
    (L1 : List (View.Piece (Elt F) S1024x256 .fp8e4m3)) (n : ℕ) : List (View.Piece (Elt F) S1024x256 .fp8e4m3) :=
  putC v (rowFactor (tInv v s L n)) (tPut v s L n) L1 n

/-- The end of the tile: the product with the values, times the two scales, transposed. -/
def finish (o : FVec F S128x256 .f32) (sc : FVec F S1x256 .f32) (vs : F .f32) : FVec F S1x256x128 .bf16 :=
  shapeCast S1x256x128 (truncf .bf16 (transpose S256x128 [1, 0] (mulf o (broadcastTo S128x256 (mulf sc (broadcast S1x256 vs)) broadcasts_S1x256_S128x256))
    transposes_S128x256_p1_0_S256x128) bitsLt_bf16_f32) shapeCasts_S256x128_S1x256x128

/-- THE TILE over `n` chunks: `kk` is the number of keys, `d` the product's dimensions, `vt` the values. -/
def tile {kk : ℕ} (d : DotDims ⟨2, ![128, kk]⟩ ⟨2, ![kk, 256]⟩ S128x256) (inb : ∀ a, (![0, 0] : Fin 2 → Nat) a + (⟨2, ![kk, 256]⟩ : Shape).size a ≤ S1024x256.size a)
    (vA : View sig .tc .vmem S1024x256 .f32) (vB : View sig .tc .vmem S1024x256 .fp8e4m3) (s : ℕ → FVec F S256x256 .f32)
    (L : List (View.Piece (Elt F) S1024x256 .f32)) (L1 : List (View.Piece (Elt F) S1024x256 .fp8e4m3)) (n : ℕ)
    (vt : FVec F ⟨2, ![128, kk]⟩ .fp8e4m3) (vs : F .f32) : FVec F S1x256x128 .bf16 :=
  finish (matmul d none vt (vB.readCov (tCodes vA s L L1 n) (Rect.unit (s := S1024x256) ![0, 0] (⟨2, ![kk, 256]⟩ : Shape).size inb).toLoadRect)
    (constant S128x256 .f32 0x00000000#32)) (rowScale (tInv vA s L n)) vs

/-- The first `kk` columns of the transposed value block. -/
def vBlk (kk : ℕ) (a : Memref sig .tc .vmem S1x1x128x1024 .fp8e4m3) (h : a.IsWhole) (x : Vec F S1x1x128x1024 .fp8e4m3)
    (inb : ∀ a, (![0, 0, 0, 0] : Fin 4 → Nat) a + (⟨4, ![1, 1, 128, kk]⟩ : Shape).size a ≤ S1x1x128x1024.size a)
    (hc : (⟨4, ![1, 1, 128, kk]⟩ : Shape).ShapeCasts ⟨2, ![128, kk]⟩) : FVec F ⟨2, ![128, kk]⟩ .fp8e4m3 :=
  shapeCast ⟨2, ![128, kk]⟩ (View.readAt (Elt F) a.view (Rect.unit (s := S1x1x128x1024) ![0, 0, 0, 0] (⟨4, ![1, 1, 128, kk]⟩ : Shape).size inb).toLoadRect
    (h.unread x)) hc

/-- The query scale of head `g`, the key scale, the value scale: scalars from the small memory. -/
def qScale (i : grid0.Coords) (a : Memref sig .tc .smem S2x24 .f32) (h : a.IsWhole) (x : Vec F S2x24 .f32) (g : Fin 3) : F .f32 :=
  View.readAt (Elt F) a.view (Rect.unit (s := S2x24) (k0_off1 i (BitVec.ofNat 32 g.val)) S1x1.size (k0_off1_inb i g)).toLoadRect (h.unread x) (Shape.Idx.first (show 0 < S1x1.numel by decide))
def sScale (i : grid0.Coords) (a : Memref sig .tc .smem S2x8 .f32) (h : a.IsWhole) (x : Vec F S2x8 .f32) : F .f32 :=
  View.readAt (Elt F) a.view (Rect.unit (s := S2x8) (k0_off2 i) S1x1.size (k0_off2_inb i)).toLoadRect (h.unread x) (Shape.Idx.first (show 0 < S1x1.numel by decide))

/-- What the scores are multiplied by: the two scales, the score scale and `log₂ e`. -/
def kappa (qs ks : F .f32) : F .f32 :=
  Scalar.mulf (Scalar.mulf (Scalar.mulf qs ks) (Scalar.ofBits .f32 0x3DB504F3#32)) (Named.named κ "log2_e" 0x3FB8AA3B#32)

section

variable (i : grid0.Coords)
  (a2 : Memref sig .tc .smem S2x24 .f32) (h2 : a2.IsWhole) (a3 : Memref sig .tc .smem S2x8 .f32) (h3 : a3.IsWhole) (a4 : Memref sig .tc .smem S2x8 .f32) (h4 : a4.IsWhole)
  (a5 : Memref sig .tc .vmem S1x3x1024x128 .fp8e4m3) (h5 : a5.IsWhole) (a6 : Memref sig .tc .vmem S1x1x1024x128 .fp8e4m3) (h6 : a6.IsWhole)
  (a7 : Memref sig .tc .vmem S1x1x128x1024 .fp8e4m3) (h7 : a7.IsWhole)
  (a9 : Memref sig .tc .vmem S1024x256 .f32) (a10 : Memref sig .tc .vmem S1024x256 .fp8e4m3)
  (x0 : Vec F S2x24 .f32) (x1 : Vec F S2x8 .f32) (x2 : Vec F S2x8 .f32)
  (x3 : Vec F S1x3x1024x128 .fp8e4m3) (x4 : Vec F S1x1x1024x128 .fp8e4m3) (x5 : Vec F S1x1x128x1024 .fp8e4m3)

/-- The scores of tile `t` of head `g`. -/
def scores (g : Fin 3) (t : ℕ) : ℕ → FVec F S256x256 .f32 :=
  score (qBlk a5 h5 x3 g.val t) (kBlk a6 h6 x4) (kappa (qScale i a2 h2 x0 g) (sScale i a3 h3 x1)) t

/-- Tile `t` of head `g`, over what the tiles before it left in the scratches. -/
def tileAt (L : List (View.Piece (Elt F) S1024x256 .f32)) (L1 : List (View.Piece (Elt F) S1024x256 .fp8e4m3)) (g : Fin 3) (t : Fin 4) : FVec F S1x256x128 .bf16 :=
  let s := scores i a2 h2 a3 h3 a5 h5 a6 h6 x0 x1 x3 x4 g t.val
  let vs := sScale i a4 h4 x2
  match t with
  | 0 => tile dot_S128x256_S256x256_S128x256_1_0_0_1_n_n inb_S1024x256_S256x256_0_0 a9.view a10.view s L L1 1
      (vBlk 256 a7 h7 x5 inb_S1x1x128x1024_S1x1x128x256_0_0_0_0 shapeCasts_S1x1x128x256_S128x256) vs
  | 1 => tile dot_S128x512_S512x256_S128x256_1_0_0_1_n_n inb_S1024x256_S512x256_0_0 a9.view a10.view s L L1 2
      (vBlk 512 a7 h7 x5 inb_S1x1x128x1024_S1x1x128x512_0_0_0_0 shapeCasts_S1x1x128x512_S128x512) vs
  | 2 => tile dot_S128x768_S768x256_S128x256_1_0_0_1_n_n inb_S1024x256_S768x256_0_0 a9.view a10.view s L L1 3
      (vBlk 768 a7 h7 x5 inb_S1x1x128x1024_S1x1x128x768_0_0_0_0 shapeCasts_S1x1x128x768_S128x768) vs
  | 3 => tile dot_S128x1024_S1024x256_S128x256_1_0_0_1_n_n inb_S1024x256_S1024x256_0_0 a9.view a10.view s L L1 4
      (vBlk 1024 a7 h7 x5 inb_S1x1x128x1024_S1x1x128x1024_0_0_0_0 shapeCasts_S1x1x128x1024_S128x1024) vs

end

end Cert.Attn

end
-- ==== Proof.Search.lean ====
/- The exponent field of a positive real, found by a binary search over the floats with a zero fraction. -/
module

public import Idealize.ShloMosaic.PureOps.Ideal
public import Idealize.ShloMosaic.PureOps.Ideal.Laws

@[expose] public section

noncomputable section

namespace Cert.Attn

open Idealize.ShloMosaic

/-- The float whose exponent field is `w` and whose fraction is zero. -/
def expFloat (w : BitVec 32) : EReal := Ideal.ofBits .f32 (IntOp.shli .vector w 23#32)

/-- One step of the search: raise the field `f` by `k` if the float stays at most `y`. -/
def searchStep (k f : BitVec 32) (y : EReal) : BitVec 32 :=
  Scalar.select (Ideal.cmp .ole (expFloat (IntOp.addi f k)) y) (IntOp.addi f k) f

/-- The whole search, from the high bit of the field to the low one. -/
def expField (y : EReal) : BitVec 32 :=
  searchStep 1#32 (searchStep 2#32 (searchStep 4#32 (searchStep 8#32 (searchStep 16#32 (searchStep 32#32 (searchStep 64#32
    (searchStep 128#32 0#32 y) y) y) y) y) y) y) y

/-- The three parts of a word that holds a field below 256 shifted into place. -/
theorem parts : ∀ n : Fin 256, ((IntOp.shli .vector (BitVec.ofNat 32 n) 23#32).extractLsb' 31 1 == 1#1) = false
    ∧ ((IntOp.shli .vector (BitVec.ofNat 32 n) 23#32).extractLsb' 23 8).toNat = n
    ∧ ((IntOp.shli .vector (BitVec.ofNat 32 n) 23#32).extractLsb' 0 23).toNat = 0 := by
  decide +kernel

/-- A field from 1 to 254 denotes a power of two. -/
theorem expFloat_pow (n : ℕ) (h1 : 1 ≤ n) (h2 : n ≤ 254) : expFloat (BitVec.ofNat 32 n) = (((2 : ℝ) ^ ((n : ℤ) - 127) : ℝ) : EReal) := by
  have a := (parts ⟨n, by omega⟩).1
  have b := (parts ⟨n, by omega⟩).2.1
  have c := (parts ⟨n, by omega⟩).2.2
  simp only at a b c
  unfold expFloat Ideal.ofBits Ideal.ieee
  simp only [a, b, c]
  rw [if_neg (by omega), if_neg (by omega)]
  rw [EReal.coe_eq_coe_iff]
  rw [show ((n : ℤ) - (2 ^ (8 - 1) - 1) - (23 : ℕ)) = ((n : ℤ) - 127) + (-23) by norm_num; ring, zpow_add₀ (by norm_num)]
  norm_num
  ring

/-- The field 255 denotes the positive infinity. -/
theorem expFloat_top : expFloat (BitVec.ofNat 32 255) = ⊤ := by
  have a := (parts ⟨255, by omega⟩).1
  have b := (parts ⟨255, by omega⟩).2.1
  have c := (parts ⟨255, by omega⟩).2.2
  simp only at a b c
  unfold expFloat Ideal.ofBits Ideal.ieee
  simp only [a, b, c]
  simp

/-- The search step on naturals, knowing the answer `N`. -/
def natStep (k f N : ℕ) : ℕ := if f + k ≤ N then f + k else f

/-- A step raises the field by at most its bit. -/
theorem natStep_le (k f N : ℕ) : natStep k f N ≤ f + k := by unfold natStep; split <;> omega

/-- The search on naturals finds every answer below 256. -/
theorem natSearch : ∀ N : Fin 256, natStep 1 (natStep 2 (natStep 4 (natStep 8 (natStep 16 (natStep 32 (natStep 64 (natStep 128 0 N) N) N) N) N) N) N) N = N := by
  decide +kernel

/-- Between two powers of two, the comparison of the search is a comparison of fields. -/
theorem cmp_field (y : ℝ) (N n : ℕ) (hN : N ≤ 254) (hlo : (2 : ℝ) ^ ((N : ℤ) - 127) ≤ y) (hhi : y < (2 : ℝ) ^ ((N : ℤ) - 126)) (h1 : 1 ≤ n) (h2 : n ≤ 255) :
    Ideal.cmp .ole (expFloat (BitVec.ofNat 32 n)) (y : EReal) = BitVec.ofBool (decide (n ≤ N)) := by
  unfold Ideal.cmp
  simp only
  congr 1
  rw [decide_eq_decide]
  rcases Nat.lt_or_ge n 255 with h | h
  · rw [expFloat_pow n h1 (by omega), EReal.coe_le_coe_iff]
    constructor
    · intro hle
      have := lt_of_le_of_lt hle hhi
      rw [zpow_lt_zpow_iff_right₀ (by norm_num)] at this
      omega
    · intro hle
      refine le_trans ?_ hlo
      rw [zpow_le_zpow_iff_right₀ (by norm_num)]
      omega
  · obtain rfl : n = 255 := by omega
    rw [expFloat_top]
    constructor
    · intro h'; exact absurd (top_le_iff.mp h') (EReal.coe_ne_top y)
    · intro h'; omega

/-- One step of the search on words is the step on naturals. -/
theorem searchStep_eq (y : ℝ) (N k f : ℕ) (hN : N ≤ 254) (hlo : (2 : ℝ) ^ ((N : ℤ) - 127) ≤ y) (hhi : y < (2 : ℝ) ^ ((N : ℤ) - 126)) (h1 : 1 ≤ k) (h2 : f + k ≤ 255) :
    searchStep (BitVec.ofNat 32 k) (BitVec.ofNat 32 f) (y : EReal) = BitVec.ofNat 32 (natStep k f N) := by
  unfold searchStep natStep
  have e : IntOp.addi (BitVec.ofNat 32 f) (BitVec.ofNat 32 k) = BitVec.ofNat 32 (f + k) := by
    unfold IntOp.addi; rw [BitVec.ofNat_add]
  rw [e, cmp_field y N (f + k) hN hlo hhi (by omega) h2]
  unfold Scalar.select
  by_cases h : f + k ≤ N <;> simp [h]

/-- THE SEARCH: a real between two neighbouring powers of two has the lower one's field. -/
theorem expField_eq (y : ℝ) (N : ℕ) (hN : N ≤ 254) (hlo : (2 : ℝ) ^ ((N : ℤ) - 127) ≤ y) (hhi : y < (2 : ℝ) ^ ((N : ℤ) - 126)) :
    expField (y : EReal) = BitVec.ofNat 32 N := by
  have b1 := natStep_le 128 0 N
  have b2 := natStep_le 64 (natStep 128 0 N) N
  have b3 := natStep_le 32 (natStep 64 (natStep 128 0 N) N) N
  have b4 := natStep_le 16 (natStep 32 (natStep 64 (natStep 128 0 N) N) N) N
  have b5 := natStep_le 8 (natStep 16 (natStep 32 (natStep 64 (natStep 128 0 N) N) N) N) N
  have b6 := natStep_le 4 (natStep 8 (natStep 16 (natStep 32 (natStep 64 (natStep 128 0 N) N) N) N) N) N
  have b7 := natStep_le 2 (natStep 4 (natStep 8 (natStep 16 (natStep 32 (natStep 64 (natStep 128 0 N) N) N) N) N) N) N
  unfold expField
  rw [searchStep_eq y N 128 0 hN hlo hhi (by omega) (by omega), searchStep_eq y N 64 _ hN hlo hhi (by omega) (by omega),
    searchStep_eq y N 32 _ hN hlo hhi (by omega) (by omega), searchStep_eq y N 16 _ hN hlo hhi (by omega) (by omega),
    searchStep_eq y N 8 _ hN hlo hhi (by omega) (by omega), searchStep_eq y N 4 _ hN hlo hhi (by omega) (by omega),
    searchStep_eq y N 2 _ hN hlo hhi (by omega) (by omega), searchStep_eq y N 1 _ hN hlo hhi (by omega) (by omega)]
  congr 1
  exact natSearch ⟨N, by omega⟩

end Cert.Attn

end
-- ==== Proof.Row.lean ====
/- One row of the attention: what the kernel computes and what the reference computes, as functions of its scores. -/
module

public import proofs.«01_k».proof.Proof.Search

@[expose] public section

noncomputable section

namespace Cert.Attn

open Idealize.ShloMosaic

/-- The two literals of the clip and the literal the row maximum is multiplied by. -/
def clipLo : EReal := Ideal.ofBits .f32 0xC3E00000#32
def clipHi : EReal := Ideal.ofBits .f32 0x43E00000#32
def invMax : EReal := Ideal.ofBits .f32 0x3B124925#32

/-- The literals as reals. -/
theorem clipLo_eq : clipLo = ((-448 : ℝ) : EReal) := by
  simp [clipLo, Ideal.ofBits, Ideal.ieee, -EReal.coe_mul]; norm_num
theorem clipHi_eq : clipHi = ((448 : ℝ) : EReal) := by
  simp [clipHi, Ideal.ofBits, Ideal.ieee, -EReal.coe_mul]; norm_num
theorem invMax_eq : invMax = ((9586981 / 4294967296 : ℝ) : EReal) := by
  simp [invMax, Ideal.ofBits, Ideal.ieee, -EReal.coe_mul]; norm_num
theorem one_eq : Ideal.ofBits .f32 0x3F800000#32 = 1 := by
  simp [Ideal.ofBits, Ideal.ieee, -EReal.coe_mul]; norm_num
theorem zero_eq : Ideal.ofBits .f32 0x00000000#32 = 0 := by
  simp [Ideal.ofBits, Ideal.ieee]
theorem ninf_eq : Ideal.ofBits .f32 0xFF800000#32 = ⊥ := by
  simp [Ideal.ofBits, Ideal.ieee]

/-- The kernel's exponent of a row, as a word. -/
def kExp (y : EReal) : BitVec 32 := IntOp.subi (expField y) 126#32
/-- The scale of a row, `2^e`, and its reciprocal, as the kernel builds them from the word `e`. -/
def kScale (e : BitVec 32) : EReal := expFloat (IntOp.addi e 127#32)
def kInv (e : BitVec 32) : EReal := expFloat (IntOp.subi 127#32 e)
/-- The factor the kernel multiplies a row's numerators by, from the reciprocal of their sum. -/
def kFactor (il : EReal) : EReal := min clipHi (max clipLo (il * kInv (kExp (il * invMax))))

/-- The kernel's row: `T` are the scores in base two, `V` a column of the values, `vs` the values' scale. -/
def kRow (T V : Fin 1024 → EReal) (vs : EReal) : EReal :=
  let m := Finset.univ.sup T
  let u := fun k => Ideal.exp2 (T k - m)
  let il := Ideal.div 1 (∑ k, u k)
  (∑ k, V k * (u k * kFactor il)) * (kScale (kExp (il * invMax)) * vs)

/-- The exponent of the reference's quantiser at a row maximum `a`. -/
def rExp (a : EReal) : EReal :=
  Scalar.select (Ideal.cmp .oeq a 0) 0 (Ideal.liftRound Int.floor (Ideal.div (Ideal.log (a * invMax)) ((Real.log 2 : ℝ) : EReal)) + 1)

/-- The reference's row: `S` are the scores, `-∞` where masked. -/
def rRow (S V : Fin 1024 → EReal) (vs : EReal) : EReal :=
  let u := fun k => Ideal.exp (S k - Finset.univ.sup S)
  let p := fun k => Ideal.div (u k) (∑ k, u k)
  let e := rExp (Finset.univ.sup p)
  (∑ k, min clipHi (max clipLo (p k * Ideal.exp2 (0 - e))) * V k) * Ideal.exp2 e * vs

/-- `log₂ e`. -/
def L2e : EReal := (((Real.log 2)⁻¹ : ℝ) : EReal)

/-- Signs of the logarithm of two and of `log₂ e`. -/
theorem log2_pos : 0 < Real.log 2 := Real.log_pos (by norm_num)

theorem L2e_pos : 0 < L2e := by
  unfold L2e; exact_mod_cast inv_pos.mpr log2_pos

/-- The infinities times `log₂ e`. -/
theorem bot_mul_L2e : (⊥ : EReal) * L2e = ⊥ := EReal.bot_mul_of_pos L2e_pos
theorem top_mul_L2e : (⊤ : EReal) * L2e = ⊤ := EReal.top_mul_of_pos L2e_pos

/-- The maximum of the scores times `log₂ e` is their maximum times `log₂ e`. -/
theorem sup_mul (S : Fin 1024 → EReal) : Finset.univ.sup (fun k => S k * L2e) = Finset.univ.sup S * L2e := by
  have := Finset.comp_sup_eq_sup_comp_of_is_total (s := Finset.univ) (f := S) (fun x : EReal => x * L2e)
    (fun a b h => mul_le_mul_of_nonneg_right h L2e_pos.le) bot_mul_L2e
  exact this.symm

/-- A sum of reals, as extended reals. -/
theorem coe_sum (w : Fin 1024 → ℝ) : (∑ k, (w k : EReal)) = ((∑ k, w k : ℝ) : EReal) := by
  induction (Finset.univ : Finset (Fin 1024)) using Finset.induction_on with
  | empty => simp
  | insert a s ha ih => rw [Finset.sum_insert ha, Finset.sum_insert ha, ih, EReal.coe_add]

/-- A numerator in base two is the numerator in base `e`. -/
theorem exp2_mul (x M : ℝ) : Ideal.exp2 ((x : EReal) * L2e - (M : EReal) * L2e) = ((Real.exp (x - M) : ℝ) : EReal) := by
  unfold L2e
  rw [← EReal.coe_mul, ← EReal.coe_mul, ← EReal.coe_sub]
  show ((Real.rpow 2 _ : ℝ) : EReal) = _
  rw [EReal.coe_eq_coe_iff]
  show (2 : ℝ) ^ (x * (Real.log 2)⁻¹ - M * (Real.log 2)⁻¹ : ℝ) = _
  rw [Real.rpow_def_of_pos (by norm_num)]
  congr 1
  have := log2_pos.ne'
  field_simp

/-- A quotient of reals. -/
theorem div_coe (x y : ℝ) (hy : y ≠ 0) : Ideal.div (x : EReal) (y : EReal) = ((x * y⁻¹ : ℝ) : EReal) := by
  unfold Ideal.div
  rw [if_neg (by exact_mod_cast hy), ← EReal.coe_inv, EReal.coe_mul]

/-- What both exponents are at a maximum `a` between `1/1024` and `1`. -/
theorem exponents (a : ℝ) (h0 : 1 / 1024 ≤ a) (h1 : a ≤ 1) :
    ∃ j : ℤ, a ≤ 448 * (2 : ℝ) ^ j ∧ kScale (kExp ((a : EReal) * invMax)) = (((2 : ℝ) ^ j : ℝ) : EReal)
      ∧ kInv (kExp ((a : EReal) * invMax)) = (((2 : ℝ) ^ (-j) : ℝ) : EReal) ∧ rExp (a : EReal) = ((j : ℝ) : EReal) := by
  have ha : 0 < a := lt_of_lt_of_le (by norm_num) h0
  rw [invMax_eq, ← EReal.coe_mul]
  set y : ℝ := a * (9586981 / 4294967296) with hy
  have hy0 : 0 < y := by positivity
  set i : ℤ := ⌊Real.log y * (Real.log 2)⁻¹⌋ with hi
  have hf := hi.symm
  rw [← div_eq_mul_inv, Int.floor_eq_iff, le_div_iff₀ log2_pos, div_lt_iff₀ log2_pos] at hf
  have hlo : (2 : ℝ) ^ i ≤ y := by
    rw [← Real.log_le_log_iff (by positivity) hy0, Real.log_zpow]
    exact hf.1
  have hhi : y < (2 : ℝ) ^ (i + 1) := by
    rw [← Real.log_lt_log_iff hy0 (by positivity), Real.log_zpow]
    push_cast
    exact hf.2
  have b1 : -19 ≤ i := by
    have : (2 : ℝ) ^ (-19 : ℤ) < (2 : ℝ) ^ (i + 1) := lt_of_le_of_lt (by rw [hy]; norm_num; linarith) hhi
    rw [zpow_lt_zpow_iff_right₀ (by norm_num)] at this
    omega
  have b2 : i ≤ -9 := by
    have : (2 : ℝ) ^ i < (2 : ℝ) ^ (-8 : ℤ) := lt_of_le_of_lt hlo (by rw [hy]; norm_num; linarith)
    rw [zpow_lt_zpow_iff_right₀ (by norm_num)] at this
    omega
  obtain ⟨N, hN⟩ : ∃ N : ℕ, (N : ℤ) = i + 127 := ⟨(i + 127).toNat, by omega⟩
  have hE : expField (y : EReal) = BitVec.ofNat 32 N :=
    expField_eq y N (by omega) (by rw [show (N : ℤ) - 127 = i by omega]; exact hlo) (by rw [show (N : ℤ) - 126 = i + 1 by omega]; exact hhi)
  refine ⟨i + 1, ?_, ?_, ?_, ?_⟩
  · have : a = y * (4294967296 / 9586981) := by rw [hy]; ring
    rw [this]
    have : y * (4294967296 / 9586981 : ℝ) ≤ y * 448 := mul_le_mul_of_nonneg_left (by norm_num) hy0.le
    linarith
  · unfold kScale kExp
    rw [hE]
    have : IntOp.addi (IntOp.subi (BitVec.ofNat 32 N) 126#32) 127#32 = BitVec.ofNat 32 (N + 1) := by
      unfold IntOp.addi IntOp.subi
      apply BitVec.eq_of_toNat_eq
      simp only [BitVec.toNat_add, BitVec.toNat_sub, BitVec.toNat_ofNat]
      omega
    rw [this, expFloat_pow _ (by omega) (by omega), show ((N + 1 : ℕ) : ℤ) - 127 = i + 1 by push_cast; omega]
  · unfold kInv kExp
    rw [hE]
    have : IntOp.subi 127#32 (IntOp.subi (BitVec.ofNat 32 N) 126#32) = BitVec.ofNat 32 (253 - N) := by
      unfold IntOp.subi
      apply BitVec.eq_of_toNat_eq
      simp only [BitVec.toNat_sub, BitVec.toNat_ofNat]
      omega
    rw [this, expFloat_pow _ (by omega) (by omega), show ((253 - N : ℕ) : ℤ) - 127 = -(i + 1) by omega]
  · unfold rExp
    rw [show Ideal.cmp .oeq (a : EReal) 0 = 0#1 by
      unfold Ideal.cmp
      simp only
      rw [decide_eq_false (by exact_mod_cast ha.ne')]
      rfl]
    unfold Scalar.select
    rw [if_neg (by decide), invMax_eq, ← EReal.coe_mul, ← hy]
    rw [show Ideal.log (y : EReal) = ((Real.log y : ℝ) : EReal) by
      show (if y ≤ 0 then (⊥ : EReal) else _) = _
      rw [if_neg (not_le.mpr hy0)], div_coe _ _ log2_pos.ne']
    show (((⌊_⌋ : ℤ) : ℝ) : EReal) + 1 = _
    rw [← hi]
    push_cast
    rfl

/-- `exp2` of an integer is that power of two. -/
theorem exp2_int (j : ℤ) : Ideal.exp2 ((j : ℝ) : EReal) = (((2 : ℝ) ^ j : ℝ) : EReal) := by
  show ((Real.rpow 2 _ : ℝ) : EReal) = _
  rw [EReal.coe_eq_coe_iff]
  exact Real.rpow_intCast 2 j

/-- A real within the clip's bounds is left by the clip. -/
theorem clip_id (x : ℝ) (h0 : 0 ≤ x) (h1 : x ≤ 448) : min clipHi (max clipLo (x : EReal)) = (x : EReal) := by
  rw [clipHi_eq, clipLo_eq, max_eq_right (by exact_mod_cast (by linarith : (-448 : ℝ) ≤ x)), min_eq_right (by exact_mod_cast h1)]

/-- A row whose maximum is an infinity is 0 on both sides. -/
theorem row_inf (S V : Fin 1024 → EReal) (vs : EReal) (h : Finset.univ.sup S = ⊥ ∨ Finset.univ.sup S = ⊤) :
    kRow (fun k => S k * L2e) V vs = 0 ∧ rRow S V vs = 0 := by
  have hb : ∀ k, S k - Finset.univ.sup S = ⊥ := by
    intro k
    rcases h with h | h
    · have : S k ≤ ⊥ := h ▸ Finset.le_sup (Finset.mem_univ k)
      rw [le_bot_iff.mp this, h]; rfl
    · rw [h, sub_eq_add_neg]; simp
  have hb2 : ∀ k, S k * L2e - Finset.univ.sup S * L2e = ⊥ := by
    intro k
    rcases h with h | h
    · have : S k ≤ ⊥ := h ▸ Finset.le_sup (Finset.mem_univ k)
      rw [le_bot_iff.mp this, h, bot_mul_L2e]; rfl
    · rw [h, top_mul_L2e, sub_eq_add_neg]; simp
  constructor
  · unfold kRow
    simp only [sup_mul, hb2]
    simp [Ideal.exp2_bot]
  · unfold rRow
    simp only [hb]
    have e : rExp (Finset.univ.sup fun _ : Fin 1024 => (⊥ : EReal)) = ⊥ := by
      rw [show (Finset.univ.sup fun _ : Fin 1024 => (⊥ : EReal)) = ⊥ by simp]
      unfold rExp
      rw [invMax_eq, EReal.bot_mul_coe_of_pos (by norm_num)]
      have hl : (((Real.log 2 : ℝ)) : EReal) ≠ 0 := by exact_mod_cast log2_pos.ne'
      have hd : Ideal.div (Ideal.log ⊥) ((Real.log 2 : ℝ) : EReal) = ⊥ := by
        unfold Ideal.div
        rw [if_neg hl, ← EReal.coe_inv]
        rw [Ideal.log_bot]
        exact EReal.bot_mul_coe_of_pos (inv_pos.mpr log2_pos)
      rw [hd]
      simp [Ideal.cmp, Scalar.select, Ideal.liftRound_bot]
    have d : Ideal.div (Ideal.exp ⊥) (∑ _ : Fin 1024, Ideal.exp ⊥) = ⊥ := by
      simp [Ideal.exp_bot, Ideal.div]
    rw [d, e]
    simp [Ideal.exp2_bot]

/-- THE ROW: the kernel's row and the reference's are equal, whatever the scores. -/
theorem row_eq (S V : Fin 1024 → EReal) (vs : EReal) : kRow (fun k => S k * L2e) V vs = rRow S V vs := by
  by_cases hinf : Finset.univ.sup S = ⊥ ∨ Finset.univ.sup S = ⊤
  · rw [(row_inf S V vs hinf).1, (row_inf S V vs hinf).2]
  obtain ⟨M, hM⟩ : ∃ M : ℝ, Finset.univ.sup S = (M : EReal) := by
    push Not at hinf
    exact ⟨_, (EReal.coe_toReal hinf.2 hinf.1).symm⟩
  obtain ⟨k0, -, hk0⟩ := Finset.exists_mem_eq_sup Finset.univ ⟨0, Finset.mem_univ _⟩ S
  have hw : ∀ k, ∃ w : ℝ, 0 ≤ w ∧ w ≤ 1 ∧ Ideal.exp (S k - M) = (w : EReal) ∧ Ideal.exp2 (S k * L2e - (M : EReal) * L2e) = (w : EReal) ∧ (S k = M → w = 1) := by
    intro k
    have hle : S k ≤ M := hM ▸ Finset.le_sup (Finset.mem_univ k)
    induction hs : S k using EReal.rec with
    | bot =>
      refine ⟨0, le_rfl, zero_le_one, ?_, ?_, ?_⟩
      · show Ideal.exp ((⊥ : EReal) - M) = _
        rw [sub_eq_add_neg]; simp [Ideal.exp_bot]
      · show Ideal.exp2 ((⊥ : EReal) * L2e - (M : EReal) * L2e) = _
        rw [bot_mul_L2e, sub_eq_add_neg]; simp [Ideal.exp2_bot]
      · intro h; exact absurd h (EReal.bot_ne_coe M)
    | coe x =>
      rw [hs] at hle
      have hx : x ≤ M := by exact_mod_cast hle
      refine ⟨Real.exp (x - M), (Real.exp_pos _).le, Real.exp_le_one_iff.mpr (by linarith), ?_, exp2_mul x M, ?_⟩
      · show Ideal.exp ((x : EReal) - M) = _
        rw [← EReal.coe_sub]; rfl
      · intro h
        have : x = M := by exact_mod_cast h
        rw [this, sub_self, Real.exp_zero]
    | top =>
      rw [hs] at hle
      exact absurd (top_le_iff.mp hle) (EReal.coe_ne_top M)
  choose w w0 w1 we we2 wM using hw
  have wk0 : w k0 = 1 := wM k0 (by rw [← hM, hk0])
  have hW1 : 1 ≤ ∑ k, w k := wk0 ▸ Finset.single_le_sum (fun k _ => w0 k) (Finset.mem_univ k0)
  have hW2 : ∑ k, w k ≤ 1024 := by
    have := Finset.sum_le_card_nsmul Finset.univ w 1 (fun k _ => w1 k)
    simpa using this
  set W : ℝ := ∑ k, w k with hW
  have hWpos : 0 < W := by linarith
  have hsup : (Finset.univ.sup fun k => ((w k * W⁻¹ : ℝ) : EReal)) = ((W⁻¹ : ℝ) : EReal) := by
    apply le_antisymm
    · refine Finset.sup_le fun k _ => ?_
      have := mul_le_mul_of_nonneg_right (w1 k) (inv_pos.mpr hWpos).le
      exact_mod_cast (by linarith : w k * W⁻¹ ≤ W⁻¹)
    · have := Finset.le_sup (f := fun k => ((w k * W⁻¹ : ℝ) : EReal)) (Finset.mem_univ k0)
      simpa [wk0] using this
  obtain ⟨j, hj, hs, hi, he⟩ := exponents W⁻¹ (by rw [one_div]; exact inv_anti₀ hWpos hW2) (inv_le_one_of_one_le₀ hW1)
  have hpow : (0 : ℝ) < (2 : ℝ) ^ (-j) := by positivity
  have hq : W⁻¹ * (2 : ℝ) ^ (-j) ≤ 448 := by
    rw [zpow_neg, ← div_eq_mul_inv, div_le_iff₀ (by positivity)]
    exact hj
  have hWi : 0 < W⁻¹ := inv_pos.mpr hWpos
  unfold kRow rRow
  simp only [sup_mul, hM, we, we2]
  simp only [coe_sum, ← hW]
  rw [show (1 : EReal) = ((1 : ℝ) : EReal) from rfl, div_coe _ _ hWpos.ne', one_mul]
  simp only [div_coe _ _ hWpos.ne', hsup, he]
  rw [hs]
  unfold kFactor
  rw [hi, ← EReal.coe_mul, clip_id _ (by positivity) hq]
  rw [show (0 : EReal) - ((j : ℝ) : EReal) = (((-j : ℤ) : ℝ) : EReal) by push_cast; rw [zero_sub], exp2_int, exp2_int, mul_assoc]
  refine congrArg (fun z : EReal => z * ((((2 : ℝ) ^ j : ℝ) : EReal) * vs)) ?_
  refine Finset.sum_congr rfl fun k _ => ?_
  rw [mul_comm, ← EReal.coe_mul, ← EReal.coe_mul, clip_id, mul_assoc]
  · have := w0 k; positivity
  · have := mul_le_mul_of_nonneg_right (w1 k) (mul_pos hWi hpow).le
    calc w k * W⁻¹ * (2 : ℝ) ^ (-j) = w k * (W⁻¹ * (2 : ℝ) ^ (-j)) := mul_assoc _ _ _
      _ ≤ 1 * (W⁻¹ * (2 : ℝ) ^ (-j)) := this
      _ ≤ 448 := by linarith

end Cert.Attn

end
-- ==== Proof.TileValue.lean ====
/- The tile of the kernel's body read at an index, over the extended reals: the loads from the scratches give back what was stored, the maxima and sums
   over eight sublanes are maxima and sums over a chunk. -/
module

public import proofs.«01_k».proof.Proof.Tile
public import proofs.«01_k».proof.Proof.Row

@[expose] public section

set_option maxRecDepth 16384

noncomputable section

namespace Cert.Attn

open Cert.KernelIdeal Cert.KernelIdeal.Gen Idealize.ShloMosaic Idealize.ShloMosaic.TcCoe

/-- Row `i` of chunk `c`, as a row of the scratch. -/
def rowOf (c : ℕ) (i : Fin 256) : Fin 1024 := ⟨256 * (c % 4) + i.val, by omega⟩

/-- The chunk's rectangle puts its row `i` there. -/
theorem idx_chunk (c : ℕ) (i j : Fin 256) : (chunk c).idx (ix2 i j) = (ix2 (rowOf c i) j : S1024x256.Idx) := by
  funext a
  apply Fin.ext
  fin_cases a
  · show 256 * (c % 4) + 1 * i.val = 256 * (c % 4) + i.val
    omega
  · show 0 + 1 * j.val = j.val
    omega

section scratch

variable {e : EltTy} (w : (chunk 0).shape.Idx → Elt Ideal e) (L : List (View.Piece (Elt Ideal) S1024x256 e))

/-- A chunk just stored is read back, -/
theorem canon_hit (c : ℕ) (w : (chunk c).shape.Idx → Elt Ideal e) (i j : Fin 256) :
    View.canon (⟨chunk c, w⟩ :: L) (ix2 (rowOf c i) j : S1024x256.Idx) = w (ix2 i j) := by
  rw [← idx_chunk c i j]
  exact View.canon_cons_emb (chunk c) w L (ix2 i j)

/-- Different chunks of rows are disjoint. -/
theorem disj_chunk : ∀ c n : Fin 4, c ≠ n → LoadRect.disj (chunk n.val) (chunk c.val).toLoadRect = true := by decide +kernel

/-- and another chunk's store leaves it. -/
theorem canon_miss (c n : ℕ) (hc : c < 4) (hn : n < 4) (h : c ≠ n) (w : (chunk n).shape.Idx → Elt Ideal e) (i j : Fin 256) :
    View.canon (⟨chunk n, w⟩ :: L) (ix2 (rowOf c i) j : S1024x256.Idx) = View.canon L (ix2 (rowOf c i) j : S1024x256.Idx) := by
  rw [← idx_chunk c i j]
  exact View.canon_cons_of_not_mem ⟨chunk n, w⟩ L
    (LoadRect.idx_not_mem_of_disj (disj_chunk ⟨c, hc⟩ ⟨n, hn⟩ (fun e => h (congrArg Fin.val e))) (ix2 i j))

/-- A load of a chunk reads what the stores left there. -/
theorem load_chunk (v : View sig .tc .vmem S1024x256 e) (c : ℕ) (i j : Fin 256) :
    v.readCov L (chunk c).toLoadRect (ix2 i j) = View.canon L (ix2 (rowOf c i) j : S1024x256.Idx) := by
  rw [View.readCov_eq_canon']
  exact congrArg (View.canon L) (idx_chunk c i j)

end scratch

/-- The scores stored are what a later load finds. -/
theorem canon_putS (s : ℕ → FVec Ideal S256x256 .f32) (L : List (View.Piece (Elt Ideal) S1024x256 .f32)) (n c : ℕ) (hn : n ≤ 4) (hc : c < n) (i j : Fin 256) :
    View.canon (putS s L n) (ix2 (rowOf c i) j : S1024x256.Idx) = s c (ix2 i j) := by
  induction n with
  | zero => omega
  | succ n ih =>
    unfold putS
    by_cases h : c = n
    · subst h
      refine (canon_hit _ c _ i j).trans ?_
      rw [shapeCast_self]
    · exact (canon_miss _ c n (by omega) (by omega) h _ i j).trans (ih (by omega) (by omega))

/-- An exponential of a chunk, at an index. -/
theorem expo_apply (v : View sig .tc .vmem S1024x256 .f32) (m : FVec Ideal S1x256 .f32) (L : List (View.Piece (Elt Ideal) S1024x256 .f32)) (c : ℕ) (i j : Fin 256) :
    expo v m L c (ix2 i j) = Ideal.exp2 (View.canon L (ix2 (rowOf c i) j : S1024x256.Idx) - m (ix2 0 j)) := by
  rw [← load_chunk L v]
  unfold expo
  pointwise
  rfl

/-- The exponentials stored: of a chunk already done, or the chunk as it was. -/
theorem canon_putU (v : View sig .tc .vmem S1024x256 .f32) (m : FVec Ideal S1x256 .f32) (L : List (View.Piece (Elt Ideal) S1024x256 .f32)) (n c : ℕ) (hn : n ≤ 4)
    (hc : c < 4) (i j : Fin 256) :
    View.canon (putU v m L n) (ix2 (rowOf c i) j : S1024x256.Idx)
      = if c < n then Ideal.exp2 (View.canon L (ix2 (rowOf c i) j : S1024x256.Idx) - m (ix2 0 j)) else View.canon L (ix2 (rowOf c i) j : S1024x256.Idx) := by
  induction n with
  | zero => rfl
  | succ n ih =>
    unfold putU
    by_cases h : c = n
    · subst h
      refine (canon_hit _ c _ i j).trans ?_
      rw [shapeCast_self, expo_apply, ih (by omega), if_neg (by omega), if_pos (by omega)]
    · refine (canon_miss _ c n hc (by omega) h _ i j).trans ((ih (by omega)).trans ?_)
      by_cases h' : c < n
      · rw [if_pos h', if_pos (by omega)]
      · rw [if_neg h', if_neg (by omega)]

/-- A code is the exponential times the row's factor. -/
theorem coded_apply (u : FVec Ideal S256x256 .f32) (f : FVec Ideal S1x256 .f32) (i j : Fin 256) :
    shapeCast S256x256 (truncf .fp8e4m3 (mulf u (broadcastTo S256x256 f broadcasts_S1x256_S256x256)) bitsLt_fp8e4m3_f32) shapeCasts_S256x256_S256x256 (ix2 i j)
      = u (ix2 i j) * f (ix2 0 j) := by
  pointwise

/-- The codes stored. -/
theorem canon_putC (v : View sig .tc .vmem S1024x256 .f32) (f : FVec Ideal S1x256 .f32) (L : List (View.Piece (Elt Ideal) S1024x256 .f32))
    (L1 : List (View.Piece (Elt Ideal) S1024x256 .fp8e4m3)) (n c : ℕ) (hn : n ≤ 4) (hc : c < n) (i j : Fin 256) :
    View.canon (putC v f L L1 n) (ix2 (rowOf c i) j : S1024x256.Idx) = View.canon L (ix2 (rowOf c i) j : S1024x256.Idx) * f (ix2 0 j) := by
  induction n with
  | zero => omega
  | succ n ih =>
    unfold putC
    by_cases h : c = n
    · subst h
      refine (canon_hit _ c _ i j).trans ?_
      rw [← load_chunk L v]
      generalize v.readCov L (chunk c).toLoadRect = u
      exact coded_apply u f i j
    · exact (canon_miss _ c n (by omega) (by omega) h _ i j).trans (ih (by omega) (by omega))

/-- The rows of a chunk are the sublanes of its 32 groups: for a maximum, -/
theorem sup_rows (f : Fin 256 → EReal) :
    (Finset.univ.sup fun r : Fin 8 => Finset.univ.sup fun x : Fin 32 => f ⟨x.val * 8 + r.val, by omega⟩) = Finset.univ.sup f := by
  apply le_antisymm
  · exact Finset.sup_le fun r _ => Finset.sup_le fun x _ => Finset.le_sup (f := f) (Finset.mem_univ _)
  · refine Finset.sup_le fun i _ => ?_
    have h1 := Finset.le_sup (f := fun x : Fin 32 => f ⟨x.val * 8 + (⟨i.val % 8, by omega⟩ : Fin 8).val, by omega⟩) (Finset.mem_univ ⟨i.val / 8, by omega⟩)
    have h2 := Finset.le_sup (f := fun r : Fin 8 => Finset.univ.sup fun x : Fin 32 => f ⟨x.val * 8 + r.val, by omega⟩) (Finset.mem_univ ⟨i.val % 8, by omega⟩)
    refine le_trans (le_of_eq (congrArg f (Fin.ext ?_))) (le_trans h1 h2)
    show i.val = i.val / 8 * 8 + i.val % 8
    omega

/-- for a sum. -/
theorem sum_rows (f : Fin 256 → EReal) : (∑ r : Fin 8, ∑ x : Fin 32, f ⟨x.val * 8 + r.val, by omega⟩) = ∑ i, f i := by
  rw [Finset.sum_comm, ← Fintype.sum_prod_type']
  refine Fintype.sum_equiv (finProdFinEquiv (m := 32) (n := 8)) _ _ fun p => congrArg f (Fin.ext ?_)
  show p.1.val * 8 + p.2.val = p.2.val + 8 * p.1.val
  omega

/-- One more chunk in the maxima, -/
theorem max8_succ (s : ℕ → FVec Ideal S256x256 .f32) (n : ℕ) (r : Fin 8) (j : Fin 256) :
    max8 s (n + 1) (ix2 r j) = max (max8 s n (ix2 r j)) (Finset.univ.sup fun x : Fin 32 => s n (ix2 ⟨x.val * 8 + r.val, by omega⟩ j)) := by
  rw [max8]
  pointwise
  rw [ninf_eq]
  rfl

/-- and in the sums. -/
theorem sum8_succ (v : View sig .tc .vmem S1024x256 .f32) (m : FVec Ideal S1x256 .f32) (L : List (View.Piece (Elt Ideal) S1024x256 .f32)) (n : ℕ) (r : Fin 8) (j : Fin 256) :
    sum8 v m L (n + 1) (ix2 r j) = sum8 v m L n (ix2 r j) + ∑ x : Fin 32, expo v m (putU v m L n) n (ix2 ⟨x.val * 8 + r.val, by omega⟩ j) := by
  rw [sum8]
  pointwise

/-- The maximum over the chunks and their rows. -/
theorem rowMax_apply (s : ℕ → FVec Ideal S256x256 .f32) (n : ℕ) (j : Fin 256) :
    rowMax s n (ix2 0 j) = (Finset.range n).sup fun c => Finset.univ.sup fun i : Fin 256 => s c (ix2 i j) := by
  have h : (Finset.univ.sup fun r : Fin 8 => max8 s n (ix2 r j)) = (Finset.range n).sup fun c => Finset.univ.sup fun i : Fin 256 => s c (ix2 i j) := by
    induction n with
    | zero =>
      unfold max8
      pointwise
      rw [ninf_eq]
      simp
    | succ n ih =>
      rw [Finset.range_add_one, Finset.sup_insert, ← ih, ← sup_rows, sup_comm, ← Finset.sup_sup]
      exact Finset.sup_congr rfl fun r _ => max8_succ s n r j
  rw [← h]
  unfold rowMax
  pointwise
  rw [ninf_eq]
  rfl

/-- The sum over the chunks and their rows. -/
theorem rowSum_apply (v : View sig .tc .vmem S1024x256 .f32) (m : FVec Ideal S1x256 .f32) (L : List (View.Piece (Elt Ideal) S1024x256 .f32)) (n : ℕ) (hn : n ≤ 4) (j : Fin 256) :
    rowSum v m L n (ix2 0 j)
      = ∑ c ∈ Finset.range n, ∑ i : Fin 256, Ideal.exp2 (View.canon L (ix2 (rowOf c i) j : S1024x256.Idx) - m (ix2 0 j)) := by
  have h : (∑ r : Fin 8, sum8 v m L n (ix2 r j))
      = ∑ c ∈ Finset.range n, ∑ i : Fin 256, Ideal.exp2 (View.canon L (ix2 (rowOf c i) j : S1024x256.Idx) - m (ix2 0 j)) := by
    induction n with
    | zero =>
      unfold sum8
      pointwise
      simp
    | succ n ih =>
      rw [Finset.sum_range_succ, ← ih (by omega), ← sum_rows, ← Finset.sum_add_distrib]
      refine Finset.sum_congr rfl fun r _ => ?_
      rw [sum8_succ]
      refine congrArg _ (Finset.sum_congr rfl fun x _ => ?_)
      rw [expo_apply, canon_putU v m L n n (by omega) (by omega), if_neg (by omega)]
  rw [← h]
  unfold rowSum
  pointwise

/-- The search on vectors is the search at each index. -/
theorem step_apply (y : FVec Ideal S1x256 .f32) (k : BitVec 32) (f : IVec S1x256 32) (j : Fin 256) :
    step y k f (ix2 0 j) = searchStep k (f (ix2 0 j)) (y (ix2 0 j)) := by
  unfold step pow2 searchStep expFloat
  pointwise

/-- The search at an index, -/
theorem field_apply (y : FVec Ideal S1x256 .f32) (j : Fin 256) : field y (ix2 0 j) = expField (y (ix2 0 j)) := by
  unfold field expField
  simp only [step_apply]
  rfl

/-- so the exponent, -/
theorem rowExp_apply (il : FVec Ideal S1x256 .f32) (j : Fin 256) : rowExp il (ix2 0 j) = kExp (il (ix2 0 j) * invMax) := by
  unfold rowExp kExp
  pointwise [field_apply]
  rfl

/-- the scale, -/
theorem rowScale_apply (il : FVec Ideal S1x256 .f32) (j : Fin 256) : rowScale il (ix2 0 j) = kScale (kExp (il (ix2 0 j) * invMax)) := by
  rw [← rowExp_apply]
  unfold rowScale pow2 kScale expFloat
  pointwise

/-- the factor -/
theorem rowFactor_apply (il : FVec Ideal S1x256 .f32) (j : Fin 256) : rowFactor il (ix2 0 j) = kFactor (il (ix2 0 j)) := by
  unfold kFactor
  rw [← rowExp_apply]
  unfold rowFactor pow2 kInv expFloat clipLo clipHi
  pointwise

/-- and the reciprocal. -/
theorem recip_apply (l : FVec Ideal S1x256 .f32) (j : Fin 256) : recip l (ix2 0 j) = Ideal.div 1 (l (ix2 0 j)) := by
  unfold recip
  pointwise

/-- The end of the tile at an index. -/
theorem finish_apply (o : FVec Ideal S128x256 .f32) (sc : FVec Ideal S1x256 .f32) (vs : EReal) (i : Fin 256) (j : Fin 128) :
    finish (F := Ideal) o sc vs (ix3 0 i j) = o (ix2 j i) * (sc (ix2 0 i) * vs) := by
  unfold finish
  pointwise

/-- The products of the four tiles are sums over their keys. -/
def ReadsAsSum {kk : ℕ} (d : DotDims ⟨2, ![128, kk]⟩ ⟨2, ![kk, 256]⟩ S128x256) : Prop :=
  ∀ (vt : FVec Ideal ⟨2, ![128, kk]⟩ .fp8e4m3) (p : FVec Ideal ⟨2, ![kk, 256]⟩ .fp8e4m3) (b : Fin 128) (j : Fin 256),
    matmul d none vt p (constant S128x256 .f32 0x00000000#32) (ix2 b j) = ∑ x : Fin kk, vt (ix2 b x) * p (ix2 x j)

/-- The four products with the values are sums over their keys. -/
theorem dot256 : ReadsAsSum dot_S128x256_S256x256_S128x256_1_0_0_1_n_n := by intro vt p b j; pointwise
theorem dot512 : ReadsAsSum dot_S128x512_S512x256_S128x256_1_0_0_1_n_n := by intro vt p b j; pointwise
theorem dot768 : ReadsAsSum dot_S128x768_S768x256_S128x256_1_0_0_1_n_n := by intro vt p b j; pointwise
theorem dot1024 : ReadsAsSum dot_S128x1024_S1024x256_S128x256_1_0_0_1_n_n := by intro vt p b j; pointwise

/-- The first `kk` rows of the code scratch, as one operand: row `k` is row `k` of the scratch. -/
theorem load_codes (v : View sig .tc .vmem S1024x256 .fp8e4m3) (L : List (View.Piece (Elt Ideal) S1024x256 .fp8e4m3)) {kk : ℕ} (hk : kk ≤ 1024)
    (inb : ∀ a, (![0, 0] : Fin 2 → Nat) a + (⟨2, ![kk, 256]⟩ : Shape).size a ≤ S1024x256.size a) (k : Fin kk) (j : Fin 256) :
    v.readCov L (Rect.unit (s := S1024x256) ![0, 0] (⟨2, ![kk, 256]⟩ : Shape).size inb).toLoadRect (ix2 k j)
      = View.canon L (ix2 (Fin.castLE hk k) j : S1024x256.Idx) := by
  rw [View.readCov_eq_canon']
  refine congrArg (View.canon L) ?_
  funext a
  apply Fin.ext
  fin_cases a
  · show 0 + 1 * k.val = k.val
    omega
  · show 0 + 1 * j.val = j.val
    omega

/-- A maximum over all keys, when the keys beyond the tile's are `⊥`, is the tile's. -/
theorem sup_keys (T : Fin 1024 → EReal) (n : ℕ) (hn : n ≤ 4) (h : ∀ k : Fin 1024, 256 * n ≤ k.val → T k = ⊥) :
    ((Finset.range n).sup fun c => Finset.univ.sup fun i : Fin 256 => T (rowOf c i)) = Finset.univ.sup T := by
  apply le_antisymm
  · exact Finset.sup_le fun c _ => Finset.sup_le fun i _ => Finset.le_sup (Finset.mem_univ _)
  · refine Finset.sup_le fun k _ => ?_
    by_cases hk : 256 * n ≤ k.val
    · rw [h k hk]
      exact bot_le
    · have h1 := Finset.le_sup (f := fun i : Fin 256 => T (rowOf (k.val / 256) i)) (Finset.mem_univ ⟨k.val % 256, by omega⟩)
      have h2 := Finset.le_sup (f := fun c => Finset.univ.sup fun i : Fin 256 => T (rowOf c i)) (Finset.mem_range.mpr (show k.val / 256 < n by omega))
      refine le_trans (le_of_eq (congrArg T (Fin.ext ?_))) (le_trans h1 h2)
      show k.val = 256 * (k.val / 256 % 4) + k.val % 256
      omega

/-- A sum over all keys, when the keys beyond the tile's give zero, is the tile's. -/
theorem sum_keys (u : Fin 1024 → EReal) (n : ℕ) (hn : n ≤ 4) (h : ∀ k : Fin 1024, 256 * n ≤ k.val → u k = 0) :
    (∑ c ∈ Finset.range n, ∑ i : Fin 256, u (rowOf c i)) = ∑ k, u k := by
  have h1 : (∑ c ∈ Finset.range n, ∑ i : Fin 256, u (rowOf c i)) = ∑ c ∈ Finset.range 4, ∑ i : Fin 256, u (rowOf c i) := by
    refine Finset.sum_subset (Finset.range_mono hn) fun c hc hc' => Finset.sum_eq_zero fun i _ => h _ ?_
    have hc := Finset.mem_range.mp hc
    have hc' : ¬ c < n := fun e => hc' (Finset.mem_range.mpr e)
    show 256 * n ≤ 256 * (c % 4) + i.val
    omega
  rw [h1, Finset.sum_range, ← Fintype.sum_prod_type']
  refine Fintype.sum_equiv (finProdFinEquiv (m := 4) (n := 256)) _ _ fun p => congrArg u (Fin.ext ?_)
  show 256 * (p.1.val % 4) + p.2.val = p.2.val + 256 * p.1.val
  omega

/-- The same for the product's sum, which runs over the first `kk` keys. -/
theorem sum_first (f : Fin 1024 → EReal) {kk : ℕ} (hk : kk ≤ 1024) (h : ∀ k : Fin 1024, kk ≤ k.val → f k = 0) :
    (∑ k : Fin kk, f (Fin.castLE hk k)) = ∑ k, f k := by
  rw [← Finset.sum_subset (Finset.subset_univ (Finset.univ.map (Fin.castLEEmb hk))), Finset.sum_map]
  · rfl
  · intro k _ hk'
    refine h k (not_lt.mp fun hlt => hk' ?_)
    rw [Finset.mem_map]
    exact ⟨⟨k.val, hlt⟩, Finset.mem_univ _, Fin.ext rfl⟩

/-- THE TILE AT AN INDEX. With scores `T` of query `j` (the keys beyond the tile's chunks being `⊥`) and values `V` of column `b`, the tile gives the
    kernel's row. What the scratches held before does not matter. -/
theorem tile_apply {kk : ℕ} (d : DotDims ⟨2, ![128, kk]⟩ ⟨2, ![kk, 256]⟩ S128x256) (hd : ReadsAsSum d)
    (inb : ∀ a, (![0, 0] : Fin 2 → Nat) a + (⟨2, ![kk, 256]⟩ : Shape).size a ≤ S1024x256.size a)
    (vA : View sig .tc .vmem S1024x256 .f32) (vB : View sig .tc .vmem S1024x256 .fp8e4m3) (s : ℕ → FVec Ideal S256x256 .f32)
    (L : List (View.Piece (Elt Ideal) S1024x256 .f32)) (L1 : List (View.Piece (Elt Ideal) S1024x256 .fp8e4m3)) (n : ℕ) (hn : n ≤ 4) (hkk : kk = 256 * n)
    (vt : FVec Ideal ⟨2, ![128, kk]⟩ .fp8e4m3) (vs : EReal) (T V : Fin 1024 → EReal) (j : Fin 256) (b : Fin 128)
    (hs : ∀ c < n, ∀ i : Fin 256, s c (ix2 i j) = T (rowOf c i)) (hT : ∀ k : Fin 1024, 256 * n ≤ k.val → T k = ⊥)
    (hV : ∀ k : Fin kk, vt (ix2 b k) = V (Fin.castLE (by omega) k)) :
    tile (F := Ideal) d inb vA vB s L L1 n vt vs (ix3 0 j b) = kRow T V vs := by
  have hk : kk ≤ 1024 := by omega
  have hm : rowMax s n (ix2 0 j) = Finset.univ.sup T := by
    rw [rowMax_apply, ← sup_keys T n hn hT]
    exact Finset.sup_congr rfl fun c hc => Finset.sup_congr rfl fun i _ => hs c (Finset.mem_range.mp hc) i
  have hu0 : ∀ k : Fin 1024, 256 * n ≤ k.val → Ideal.exp2 (T k - Finset.univ.sup T) = 0 := fun k h => by
    rw [hT k h, EReal.bot_sub, Ideal.exp2_bot]
  have hl : rowSum vA (rowMax s n) (putS s L n) n (ix2 0 j) = ∑ k, Ideal.exp2 (T k - Finset.univ.sup T) := by
    rw [rowSum_apply _ _ _ n hn, hm, ← sum_keys _ n hn hu0]
    refine Finset.sum_congr rfl fun c hc => Finset.sum_congr rfl fun i _ => ?_
    rw [canon_putS s L n c hn (Finset.mem_range.mp hc), hs c (Finset.mem_range.mp hc)]
  have hil : tInv vA s L n (ix2 0 j) = Ideal.div 1 (∑ k, Ideal.exp2 (T k - Finset.univ.sup T)) := by
    unfold tInv
    rw [recip_apply, hl]
  have hc : ∀ k : Fin kk, View.canon (tCodes vA s L L1 n) (ix2 (Fin.castLE hk k) j : S1024x256.Idx)
      = Ideal.exp2 (T (Fin.castLE hk k) - Finset.univ.sup T) * kFactor (tInv vA s L n (ix2 0 j)) := fun k => by
    have e : Fin.castLE hk k = rowOf (k.val / 256) ⟨k.val % 256, by omega⟩ := by
      apply Fin.ext
      show k.val = 256 * (k.val / 256 % 4) + k.val % 256
      omega
    have h1 : k.val / 256 < n := by omega
    rw [e]
    unfold tCodes tPut
    rw [canon_putC _ _ _ _ n _ hn h1, canon_putU _ _ _ n _ hn (by omega), if_pos h1, canon_putS _ _ _ _ hn h1, hs _ h1, hm, rowFactor_apply]
  unfold tile
  rw [finish_apply, hd, rowScale_apply, hil]
  unfold kRow
  dsimp only
  congr 1
  rw [← sum_first (fun k => V k * (Ideal.exp2 (T k - Finset.univ.sup T) * kFactor (Ideal.div 1 (∑ k, Ideal.exp2 (T k - Finset.univ.sup T))))) hk
    (fun k h => by rw [hu0 k (by omega), zero_mul, mul_zero])]
  refine Finset.sum_congr rfl fun k _ => ?_
  rw [hV, load_codes _ _ hk, hc, hil]

end Cert.Attn

end
-- ==== Proof.Result.lean ====
/- The result both programs end with, as one function of the six arguments. -/
module

public import proofs.«01_k».proof.Proof.Row
public import Idealize.ShloMosaic.Lib.Pipeline.ValueKit

@[expose] public section

set_option maxRecDepth 16384

noncomputable section

namespace Cert.Attn

open Idealize.ShloMosaic

/-- The score of query `r` and key `k'` is the product of their codes over the head's coordinates, times the scales; keys after the query are masked. -/
def maskedScore (q k : Fin 1024 → Fin 128 → EReal) (c : EReal) (r k' : Fin 1024) : EReal :=
  if k'.val ≤ r.val then (∑ d, q r d * k k' d) * c else ⊥

/-- A positive factor `log₂ e` comes out of a masked score. -/
theorem masked_mul (q k : Fin 1024 → Fin 128 → EReal) (c : EReal) (r k' : Fin 1024) :
    maskedScore q k (c * L2e) r k' = maskedScore q k c r k' * L2e := by
  unfold maskedScore
  split
  · rw [mul_assoc]
  · rw [bot_mul_L2e]

/-- A row of attention with quantised probabilities, of query `r` against the keys `k` and values `v`. -/
def attnRow (q k v : Fin 1024 → Fin 128 → EReal) (qs ks vs : EReal) (r : Fin 1024) (d : Fin 128) : EReal :=
  rRow (fun k' => maskedScore q k (qs * ks * Ideal.ofBits .f32 0x3DB504F3#32) r k') (fun k' => v k' d) vs

/-- Equal operands give equal rows. -/
theorem attnRow_congr {q q' k k' v v' : Fin 1024 → Fin 128 → EReal} {qs qs' ks ks' vs vs' : EReal} (hq : ∀ r d, q r d = q' r d) (hk : ∀ r d, k r d = k' r d)
    (hv : ∀ r d, v r d = v' r d) (hqs : qs = qs') (hks : ks = ks') (hvs : vs = vs') (r : Fin 1024) (d : Fin 128) :
    attnRow q k v qs ks vs r d = attnRow q' k' v' qs' ks' vs' r d := by
  rw [funext fun r => funext (hq r), funext fun r => funext (hk r), funext fun r => funext (hv r), hqs, hks, hvs]

/-- The attention of batch `b`, query `r`, key head `kv`, head `g` of its group, coordinate `d`. -/
def attnAt (A0 : FVec Ideal ⟨4, ![2, 1024, 24, 128]⟩ .fp8e4m3) (A1 : FVec Ideal ⟨2, ![2, 24]⟩ .f32) (A2 : FVec Ideal ⟨4, ![2, 1024, 8, 128]⟩ .fp8e4m3)
    (A3 : FVec Ideal ⟨2, ![2, 8]⟩ .f32) (A4 : FVec Ideal ⟨4, ![2, 1024, 8, 128]⟩ .fp8e4m3) (A5 : FVec Ideal ⟨2, ![2, 8]⟩ .f32)
    (b : Fin 2) (r : Fin 1024) (kv : Fin 8) (g : Fin 3) (d : Fin 128) : EReal :=
  attnRow (fun r d => A0 (ix4 b r ⟨3 * kv.val + g.val, by omega⟩ d)) (fun k d => A2 (ix4 b k kv d)) (fun k d => A4 (ix4 b k kv d))
    (A1 (ix2 b ⟨3 * kv.val + g.val, by omega⟩)) (A3 (ix2 b kv)) (A5 (ix2 b kv)) r d

/-- The result array: the last axis holds the heads' coordinates side by side, the heads of one key head together. -/
def attn (A0 : FVec Ideal ⟨4, ![2, 1024, 24, 128]⟩ .fp8e4m3) (A1 : FVec Ideal ⟨2, ![2, 24]⟩ .f32) (A2 : FVec Ideal ⟨4, ![2, 1024, 8, 128]⟩ .fp8e4m3)
    (A3 : FVec Ideal ⟨2, ![2, 8]⟩ .f32) (A4 : FVec Ideal ⟨4, ![2, 1024, 8, 128]⟩ .fp8e4m3) (A5 : FVec Ideal ⟨2, ![2, 8]⟩ .f32) :
    FVec Ideal ⟨3, ![2, 1024, 3072]⟩ .bf16 := fun i =>
  have h2 : (i 2 : ℕ) < 3072 := (i 2).isLt
  attnAt A0 A1 A2 A3 A4 A5 ⟨i 0, (i 0).isLt⟩ ⟨i 1, (i 1).isLt⟩ ⟨(i 2 : ℕ) / 384, by omega⟩ ⟨(i 2 : ℕ) / 128 % 3, by omega⟩ ⟨(i 2 : ℕ) % 128, by omega⟩

/-- The result at an index of known coordinates. -/
theorem attn_of (A0 : FVec Ideal ⟨4, ![2, 1024, 24, 128]⟩ .fp8e4m3) (A1 : FVec Ideal ⟨2, ![2, 24]⟩ .f32) (A2 : FVec Ideal ⟨4, ![2, 1024, 8, 128]⟩ .fp8e4m3)
    (A3 : FVec Ideal ⟨2, ![2, 8]⟩ .f32) (A4 : FVec Ideal ⟨4, ![2, 1024, 8, 128]⟩ .fp8e4m3) (A5 : FVec Ideal ⟨2, ![2, 8]⟩ .f32)
    (i : (⟨3, ![2, 1024, 3072]⟩ : Shape).Idx) (b : Fin 2) (r : Fin 1024) (kv : Fin 8) (g : Fin 3) (d : Fin 128)
    (h0 : (i 0 : ℕ) = b.val) (h1 : (i 1 : ℕ) = r.val) (h2 : (i 2 : ℕ) = 384 * kv.val + 128 * g.val + d.val) :
    attn A0 A1 A2 A3 A4 A5 i = attnAt A0 A1 A2 A3 A4 A5 b r kv g d := by
  have h2' : (i 2 : ℕ) < 3072 := (i 2).isLt
  have b2 : (i 2 : ℕ) / 384 < 8 := by omega
  have b3 : (i 2 : ℕ) / 128 % 3 < 3 := by omega
  have b4 : (i 2 : ℕ) % 128 < 128 := by omega
  obtain rfl : (⟨(i 0 : ℕ), (i 0).isLt⟩ : Fin 2) = b := Fin.ext h0
  obtain rfl : (⟨(i 1 : ℕ), (i 1).isLt⟩ : Fin 1024) = r := Fin.ext h1
  obtain rfl : (⟨(i 2 : ℕ) / 384, b2⟩ : Fin 8) = kv := Fin.ext (by show (i 2 : ℕ) / 384 = kv.val; omega)
  obtain rfl : (⟨(i 2 : ℕ) / 128 % 3, b3⟩ : Fin 3) = g := Fin.ext (by show (i 2 : ℕ) / 128 % 3 = g.val; omega)
  obtain rfl : (⟨(i 2 : ℕ) % 128, b4⟩ : Fin 128) = d := Fin.ext (by show (i 2 : ℕ) % 128 = d.val; omega)
  rfl

end Cert.Attn

end
-- ==== Proof.TileInput.lean ====
/- The tile's operands read at an index, and with them the tile of head `g` and query block `t` as the kernel's row of the block's scores and values. -/
module

public import proofs.«01_k».proof.Proof.TileValue
public import proofs.«01_k».proof.Proof.Result

@[expose] public section

set_option maxRecDepth 16384

noncomputable section

namespace Cert.Attn

open Cert.KernelIdeal Cert.KernelIdeal.Gen Idealize.ShloMosaic Idealize.ShloMosaic.TcCoe

/-- Reading through a whole memory reads the value. -/
theorem readAt_unread {sp : Space} {s : Shape} {e : EltTy} (a : Memref sig .tc sp s e) (h : a.IsWhole) (x : Vec Ideal s e) (off : Fin s.rank → Nat) (size : Fin s.rank → Nat)
    (inb : ∀ a, off a + size a ≤ s.size a) (k : (Rect.unit off size inb).toLoadRect.shape.Idx) (i : s.Idx) (hi : ∀ a, (i a : ℕ) = off a + k a) :
    View.readAt (Elt Ideal) a.view (Rect.unit off size inb).toLoadRect (h.unread x) k = x i := by
  rw [View.readAt_eq_ld, h.read_unread]
  exact View.ld_unit_apply_of x off size inb k i hi

/-- A 256-row block behind two unit axes, -/
theorem cast_rows (u : Vec Ideal S1x1x256x128 .fp8e4m3) (i : Fin 256) (j : Fin 128) :
    shapeCast S256x128 u shapeCasts_S1x1x256x128_S256x128 (ix2 i j) = u (ix4 0 0 i j) := by
  pointwise

/-- the query block's rows are rows of the window's, -/
theorem qBlk_apply (a : Memref sig .tc .vmem S1x3x1024x128 .fp8e4m3) (h : a.IsWhole) (x : Vec Ideal S1x3x1024x128 .fp8e4m3) (g : Fin 3) (t : ℕ) (i : Fin 256) (j : Fin 128) :
    qBlk a h x g.val t (ix2 i j) = x (ix4 0 g (rowOf t i) j) := by
  unfold qBlk
  rw [cast_rows]
  refine readAt_unread a h x _ _ _ _ _ fun d => ?_
  fin_cases d
  · rfl
  · show g.val = g.val % 3 + 0
    omega
  · rfl
  · show j.val = 0 + j.val
    omega

/-- the key block's too, -/
theorem kBlk_apply (a : Memref sig .tc .vmem S1x1x1024x128 .fp8e4m3) (h : a.IsWhole) (x : Vec Ideal S1x1x1024x128 .fp8e4m3) (c : ℕ) (i : Fin 256) (j : Fin 128) :
    kBlk a h x c (ix2 i j) = x (ix4 0 0 (rowOf c i) j) := by
  unfold kBlk
  rw [cast_rows]
  refine readAt_unread a h x _ _ _ _ _ fun d => ?_
  fin_cases d
  · rfl
  · rfl
  · rfl
  · show j.val = 0 + j.val
    omega

/-- and the value block's first columns. -/
def ReadsAsCols {kk : ℕ} (hc : (⟨4, ![1, 1, 128, kk]⟩ : Shape).ShapeCasts ⟨2, ![128, kk]⟩) : Prop :=
  ∀ (u : Vec Ideal ⟨4, ![1, 1, 128, kk]⟩ .fp8e4m3) (i : Fin 128) (j : Fin kk), shapeCast ⟨2, ![128, kk]⟩ u hc (ix2 i j) = u (ix4 0 0 i j)

/-- The four widths read so. -/
theorem cols256 : ReadsAsCols shapeCasts_S1x1x128x256_S128x256 := by intro u i j; pointwise
theorem cols512 : ReadsAsCols shapeCasts_S1x1x128x512_S128x512 := by intro u i j; pointwise
theorem cols768 : ReadsAsCols shapeCasts_S1x1x128x768_S128x768 := by intro u i j; pointwise
theorem cols1024 : ReadsAsCols shapeCasts_S1x1x128x1024_S128x1024 := by intro u i j; pointwise

/-- The value block's columns are columns of the window's. -/
theorem vBlk_apply {kk : ℕ} (hk : kk ≤ 1024) (a : Memref sig .tc .vmem S1x1x128x1024 .fp8e4m3) (h : a.IsWhole) (x : Vec Ideal S1x1x128x1024 .fp8e4m3)
    (inb : ∀ a, (![0, 0, 0, 0] : Fin 4 → Nat) a + (⟨4, ![1, 1, 128, kk]⟩ : Shape).size a ≤ S1x1x128x1024.size a)
    (hc : (⟨4, ![1, 1, 128, kk]⟩ : Shape).ShapeCasts ⟨2, ![128, kk]⟩) (hr : ReadsAsCols hc) (i : Fin 128) (j : Fin kk) :
    vBlk kk a h x inb hc (ix2 i j) = x (ix4 0 0 i (Fin.castLE hk j)) := by
  unfold vBlk
  rw [hr]
  refine readAt_unread a h x _ _ _ _ _ fun d => ?_
  fin_cases d
  · rfl
  · rfl
  · show i.val = 0 + i.val
    omega
  · show j.val = 0 + j.val
    omega

/-- The scales, by the place their offsets name. -/
theorem qScale_eq (i : grid0.Coords) (a : Memref sig .tc .smem S2x24 .f32) (h : a.IsWhole) (x : Vec Ideal S2x24 .f32) (g : Fin 3) (y : S2x24.Idx)
    (hy : ∀ d, (y d : ℕ) = k0_off1 i (BitVec.ofNat 32 g.val) d) : qScale i a h x g = x y := by
  unfold qScale
  exact readAt_unread a h x _ _ _ _ _ fun d => by rw [hy d]; fin_cases d <;> rfl

/-- The same of the key and value scales. -/
theorem sScale_eq (i : grid0.Coords) (a : Memref sig .tc .smem S2x8 .f32) (h : a.IsWhole) (x : Vec Ideal S2x8 .f32) (y : S2x8.Idx)
    (hy : ∀ d, (y d : ℕ) = k0_off2 i d) : sScale i a h x = x y := by
  unfold sScale
  exact readAt_unread a h x _ _ _ _ _ fun d => by rw [hy d]; fin_cases d <;> rfl

/-- The factor of the scores is the two scales times the score scale times `log₂ e`. -/
theorem kappa_eq (qs ks : EReal) : kappa (F := Ideal) qs ks = qs * ks * Ideal.ofBits .f32 0x3DB504F3#32 * L2e := by
  unfold kappa
  rw [IdealRules.named_const.ideal_named_scalar _ _ _ _ rfl]
  rfl

/-- The body's masked and unmasked chunks are the masked scores of the rows they hold. -/
theorem score_apply (q : FVec Ideal S256x128 .fp8e4m3) (k : ℕ → FVec Ideal S256x128 .fp8e4m3) (κ : EReal) (t c : ℕ) (ht : t < 4) (hc : c ≤ t)
    (Q K : Fin 1024 → Fin 128 → EReal) (hq : ∀ i d, q (ix2 i d) = Q (rowOf t i) d) (hk : ∀ i d, k c (ix2 i d) = K (rowOf c i) d) (i j : Fin 256) :
    score (F := Ideal) q k κ t c (ix2 i j) = maskedScore Q K κ (rowOf t j) (rowOf c i) := by
  have hdot : (∑ x, k c (ix2 i x) * q (ix2 j x)) = ∑ d, Q (rowOf t j) d * K (rowOf c i) d :=
    Finset.sum_congr rfl fun d _ => by rw [hq, hk, mul_comm]
  unfold score maskedScore
  rw [← hdot]
  by_cases h : c = t
  · subst h
    rw [Nat.beq_refl]
    dsimp only [cond]
    pointwise [k0_pay3]
    rw [ninf_eq]
    have e : IntOp.cmpi .sle (BitVec.ofNat 32 i.val) (BitVec.ofNat 32 j.val) = if i.val ≤ j.val then 1#1 else 0#1 := by
      rw [WordCmp.cmpi_sle_ofNat (by omega) (by omega)]
      by_cases hij : i.val ≤ j.val <;> simp [hij]
    rw [e]
    have e' : ((rowOf c i).val ≤ (rowOf c j).val) ↔ i.val ≤ j.val := by
      show 256 * (c % 4) + i.val ≤ 256 * (c % 4) + j.val ↔ _
      omega
    by_cases hij : i.val ≤ j.val
    · rw [if_pos hij, if_pos (e'.mpr hij)]
      rfl
    · rw [if_neg hij, if_neg (fun x => hij (e'.mp x))]
      rfl
  · have hb : Nat.beq c t = false := by
      rw [← Bool.not_eq_true]
      exact fun e => h (Nat.eq_of_beq_eq_true e)
    rw [hb]
    dsimp only [cond]
    rw [if_pos (show (rowOf c i).val ≤ (rowOf t j).val from (by omega : 256 * (c % 4) + i.val ≤ 256 * (t % 4) + j.val))]
    pointwise

/-- The scores of the keys after the tile's are `⊥`. -/
theorem masked_beyond (q k : Fin 1024 → Fin 128 → EReal) (c : EReal) (t : ℕ) (ht : t < 4) (j : Fin 256) (k' : Fin 1024) (h : 256 * (t + 1) ≤ k'.val) :
    maskedScore q k c (rowOf t j) k' = ⊥ := by
  unfold maskedScore
  refine if_neg fun h' => ?_
  have h' : k'.val ≤ 256 * (t % 4) + j.val := h'
  omega

section

variable (i : grid0.Coords)
  (a2 : Memref sig .tc .smem S2x24 .f32) (h2 : a2.IsWhole) (a3 : Memref sig .tc .smem S2x8 .f32) (h3 : a3.IsWhole) (a4 : Memref sig .tc .smem S2x8 .f32) (h4 : a4.IsWhole)
  (a5 : Memref sig .tc .vmem S1x3x1024x128 .fp8e4m3) (h5 : a5.IsWhole) (a6 : Memref sig .tc .vmem S1x1x1024x128 .fp8e4m3) (h6 : a6.IsWhole)
  (a7 : Memref sig .tc .vmem S1x1x128x1024 .fp8e4m3) (h7 : a7.IsWhole)
  (a9 : Memref sig .tc .vmem S1024x256 .f32) (a10 : Memref sig .tc .vmem S1024x256 .fp8e4m3)
  (x0 : Vec Ideal S2x24 .f32) (x1 : Vec Ideal S2x8 .f32) (x2 : Vec Ideal S2x8 .f32)
  (x3 : Vec Ideal S1x3x1024x128 .fp8e4m3) (x4 : Vec Ideal S1x1x1024x128 .fp8e4m3) (x5 : Vec Ideal S1x1x128x1024 .fp8e4m3)

/-- THE TILE of head `g` and query block `t`, whatever the scratches held, is the attention row of its queries. -/
theorem tileAt_apply (L : List (View.Piece (Elt Ideal) S1024x256 .f32)) (L1 : List (View.Piece (Elt Ideal) S1024x256 .fp8e4m3)) (g : Fin 3) (t : Fin 4)
    (j : Fin 256) (b : Fin 128) :
    tileAt i a2 h2 a3 h3 a4 h4 a5 h5 a6 h6 a7 h7 a9 a10 x0 x1 x2 x3 x4 x5 L L1 g t (ix3 0 j b)
      = attnRow (fun r d => x3 (ix4 0 g r d)) (fun k d => x4 (ix4 0 0 k d)) (fun k d => x5 (ix4 0 0 d k))
          (qScale i a2 h2 x0 g) (sScale i a3 h3 x1) (sScale i a4 h4 x2) (rowOf t.val j) b := by
  unfold attnRow
  rw [← row_eq]
  simp only [← masked_mul, ← kappa_eq]
  have hs : ∀ c < t.val + 1, ∀ i' : Fin 256, scores i a2 h2 a3 h3 a5 h5 a6 h6 x0 x1 x3 x4 g t.val c (ix2 i' j)
      = maskedScore (fun r d => x3 (ix4 0 g r d)) (fun k d => x4 (ix4 0 0 k d)) (kappa (F := Ideal) (qScale i a2 h2 x0 g) (sScale i a3 h3 x1)) (rowOf t.val j) (rowOf c i') :=
    fun c hc i' => score_apply _ _ _ _ _ t.isLt (by omega) _ _ (fun i d => qBlk_apply a5 h5 x3 g t.val i d) (fun i d => kBlk_apply a6 h6 x4 c i d) i' j
  have hT := masked_beyond (fun r d => x3 (ix4 0 g r d)) (fun k d => x4 (ix4 0 0 k d)) (kappa (F := Ideal) (qScale i a2 h2 x0 g) (sScale i a3 h3 x1)) t.val t.isLt j
  match t, hs, hT with
  | 0, hs, hT => exact tile_apply _ dot256 _ _ _ _ _ _ 1 (by omega) rfl _ _ _ (fun k => x5 (ix4 0 0 b k)) j b hs hT (fun k => vBlk_apply _ a7 h7 x5 _ _ cols256 b k)
  | 1, hs, hT => exact tile_apply _ dot512 _ _ _ _ _ _ 2 (by omega) rfl _ _ _ (fun k => x5 (ix4 0 0 b k)) j b hs hT (fun k => vBlk_apply _ a7 h7 x5 _ _ cols512 b k)
  | 2, hs, hT => exact tile_apply _ dot768 _ _ _ _ _ _ 3 (by omega) rfl _ _ _ (fun k => x5 (ix4 0 0 b k)) j b hs hT (fun k => vBlk_apply _ a7 h7 x5 _ _ cols768 b k)
  | 3, hs, hT => exact tile_apply _ dot1024 _ _ _ _ _ _ 4 (by omega) rfl _ _ _ (fun k => x5 (ix4 0 0 b k)) j b hs hT (fun k => vBlk_apply _ a7 h7 x5 _ _ cols1024 b k)

end

end Cert.Attn

end
-- ==== Proof.KernelTiles.lean ====
/- The twelve values the body stores, each the tile of its head and query block over whatever the tiles before it left in the scratches. True by
   unfolding, at any float semantics. -/
module

public import proofs.«01_k».proof.Proof.Tile

@[expose] public section

set_option maxRecDepth 16384

noncomputable section

namespace Cert.Attn

open Cert.KernelIdeal Cert.KernelIdeal.Gen Idealize.ShloMosaic Idealize.ShloMosaic.TcCoe

variable {F : FTy → Type} [FloatOps F] [Named F]
variable (c : Dev nD) (i : grid0.Coords)
  (a2 : Memref sig .tc .smem S2x24 .f32) (h2 : a2.IsWhole) (a3 : Memref sig .tc .smem S2x8 .f32) (h3 : a3.IsWhole) (a4 : Memref sig .tc .smem S2x8 .f32) (h4 : a4.IsWhole)
  (a5 : Memref sig .tc .vmem S1x3x1024x128 .fp8e4m3) (h5 : a5.IsWhole) (a6 : Memref sig .tc .vmem S1x1x1024x128 .fp8e4m3) (h6 : a6.IsWhole)
  (a7 : Memref sig .tc .vmem S1x1x128x1024 .fp8e4m3) (h7 : a7.IsWhole)
  (a9 : Memref sig .tc .vmem S1024x256 .f32) (a10 : Memref sig .tc .vmem S1024x256 .fp8e4m3)
  (x0 : Vec F S2x24 .f32) (x1 : Vec F S2x8 .f32) (x2 : Vec F S2x8 .f32)
  (x3 : Vec F S1x3x1024x128 .fp8e4m3) (x4 : Vec F S1x1x1024x128 .fp8e4m3) (x5 : Vec F S1x1x128x1024 .fp8e4m3)

theorem word00 : ∃ L L1, kernelRun0_A.sl.v161 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 0 0 := ⟨_, _, rfl⟩

theorem word01 : ∃ L L1, kernelRun0_A.sl.v337 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 0 1 := ⟨_, _, rfl⟩

theorem word02 : ∃ L L1, kernelRun0_A.sl.v541 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 0 2 := ⟨_, _, rfl⟩

theorem word03 : ∃ L L1, kernelRun0_A.sl.v773 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 0 3 := ⟨_, _, rfl⟩

theorem word10 : ∃ L L1, kernelRun0_A.sl.v932 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 1 0 := ⟨_, _, rfl⟩

theorem word11 : ∃ L L1, kernelRun0_A.sl.v1108 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 1 1 := ⟨_, _, rfl⟩

theorem word12 : ∃ L L1, kernelRun0_A.sl.v1312 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 1 2 := ⟨_, _, rfl⟩

theorem word13 : ∃ L L1, kernelRun0_A.sl.v1544 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 1 3 := ⟨_, _, rfl⟩

theorem word20 : ∃ L L1, kernelRun0_A.sl.v1703 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 2 0 := ⟨_, _, rfl⟩

theorem word21 : ∃ L L1, kernelRun0_A.sl.v1879 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 2 1 := ⟨_, _, rfl⟩

theorem word22 : ∃ L L1, kernelRun0_A.sl.v2083 c i a2 h2 a3 h3 a4 h4 a5 h5 a6 h6 a7 h7 a9 a10 x0 x1 x2 x3 x4 x5
    = tileAt i a2 h2 a3 h3 a4 h4 a5 h5 a6 h6 a7 h7 a9 a10 x0 x1 x2 x3 x4 x5 L L1 2 2 := ⟨_, _, rfl⟩

theorem word23 : ∃ L L1, k0_pay2 (kernelRun0_A.sl.v2261 c i a2 h2 a3 h3 a5 h5 a6 h6 a9 x0 x1 x3 x4) (kernelRun0_A.sl.v2300 c a7 h7 x5)
      (kernelRun0_A.sl.v2302 c i a2 h2 a3 h3 a5 h5 a6 h6 a9 a10 x0 x1 x3 x4) (kernelRun0_A.sl.r_12 c i a4 h4 x2)
    = tileAt i a2 h2 a3 h3 a4 h4 a5 h5 a6 h6 a7 h7 a9 a10 x0 x1 x2 x3 x4 x5 L L1 2 3 := ⟨_, _, rfl⟩

end Cert.Attn

end
-- ==== Proof.KernelBlock.lean ====
/- What one grid point leaves in the output block: twelve stores, one per head of the group and block of 256 queries, each a tile; together the attention
   rows of the three heads. -/
module

public import proofs.«01_k».proof.Proof.TileInput
public import proofs.«01_k».proof.Proof.KernelTiles

@[expose] public section

set_option maxRecDepth 16384

noncomputable section

namespace Cert.Attn

open Cert.KernelIdeal Cert.KernelIdeal.Gen Idealize.ShloMosaic Idealize.ShloMosaic.TcCoe

section

variable (i : grid0.Coords)
  (a2 : Memref sig .tc .smem S2x24 .f32) (h2 : a2.IsWhole) (a3 : Memref sig .tc .smem S2x8 .f32) (h3 : a3.IsWhole) (a4 : Memref sig .tc .smem S2x8 .f32) (h4 : a4.IsWhole)
  (a5 : Memref sig .tc .vmem S1x3x1024x128 .fp8e4m3) (h5 : a5.IsWhole) (a6 : Memref sig .tc .vmem S1x1x1024x128 .fp8e4m3) (h6 : a6.IsWhole)
  (a7 : Memref sig .tc .vmem S1x1x128x1024 .fp8e4m3) (h7 : a7.IsWhole)
  (a9 : Memref sig .tc .vmem S1024x256 .f32) (a10 : Memref sig .tc .vmem S1024x256 .fp8e4m3)
  (x0 : Vec Ideal S2x24 .f32) (x1 : Vec Ideal S2x8 .f32) (x2 : Vec Ideal S2x8 .f32)
  (x3 : Vec Ideal S1x3x1024x128 .fp8e4m3) (x4 : Vec Ideal S1x1x1024x128 .fp8e4m3) (x5 : Vec Ideal S1x1x128x1024 .fp8e4m3)

/-- The output block at row `r`, head `g` of the group and coordinate `d`: an attention row of the input blocks. -/
def blockAt (r : Fin 1024) (g : Fin 3) (d : Fin 128) : EReal :=
  attnRow (fun r d => x3 (ix4 0 g r d)) (fun k d => x4 (ix4 0 0 k d)) (fun k d => x5 (ix4 0 0 d k))
    (qScale i a2 h2 x0 g) (sScale i a3 h3 x1) (sScale i a4 h4 x2) r d

/-- A stored tile, read where it is stored. -/
theorem piece (g : Fin 3) (t : Fin 4) (w : FVec Ideal S1x256x128 .bf16)
    (hw : ∃ L L1, w = tileAt i a2 h2 a3 h3 a4 h4 a5 h5 a6 h6 a7 h7 a9 a10 x0 x1 x2 x3 x4 x5 L L1 g t)
    (x : S1x256x128.Idx) (r : Fin 1024) (g' : Fin 3) (d : Fin 128) (h1 : r.val = 256 * t.val + (x 1 : ℕ)) (h2' : 128 * g'.val + d.val = 128 * g.val + (x 2 : ℕ)) :
    w x = blockAt i a2 h2 a3 h3 a4 h4 x0 x1 x2 x3 x4 x5 r g' d := by
  obtain ⟨L, L1, rfl⟩ := hw
  have hx1 : (x 1 : ℕ) < 256 := (x 1).isLt
  have hx2 : (x 2 : ℕ) < 128 := (x 2).isLt
  have ex : x = ix3 0 (⟨(x 1 : ℕ), hx1⟩ : Fin 256) (⟨(x 2 : ℕ), hx2⟩ : Fin 128) := by
    funext a
    apply Fin.ext
    fin_cases a
    · have : (x 0 : ℕ) < 1 := (x 0).isLt
      show (x 0 : ℕ) = 0
      omega
    · rfl
    · rfl
  have eg : g' = g := Fin.ext (by omega)
  have ed : d = ⟨(x 2 : ℕ), hx2⟩ := Fin.ext (by rw [eg] at h2'; show d.val = (x 2 : ℕ); omega)
  have er : r = rowOf t.val ⟨(x 1 : ℕ), hx1⟩ := Fin.ext (by show r.val = 256 * (t.val % 4) + (x 1 : ℕ); omega)
  rw [ex, eg, ed, er]
  exact tileAt_apply i a2 h2 a3 h3 a4 h4 a5 h5 a6 h6 a7 h7 a9 a10 x0 x1 x2 x3 x4 x5 L L1 g t _ _

end

variable (m : (ℓ : Loc nD τ sig) → Buf (Elt Ideal) ℓ)

/-- THE BLOCK a grid point leaves. -/
theorem block_apply (c : Dev nD) (t : Fin cfg0.N) (y : S1x1024x384.Idx) (r : Fin 1024) (g : Fin 3) (d : Fin 128) (hr : r.val = (y 1 : ℕ))
    (hd : 128 * g.val + d.val = (y 2 : ℕ)) :
    outsAt0 m c t y = blockAt (grid0.coords t) (ms0_0 t) (hs0_0 t) (ms0_1 t) (hs0_1 t) (ms0_2 t) (hs0_2 t)
      (iblk m c 0 t) (iblk m c 1 t) (iblk m c 2 t) (iblk m c 3 t) (iblk m c 4 t) (iblk m c 5 t) r g d := by
  unfold outsAt0 out0_A_6
  rw [View.read_writes_junk_eq_canon]
  unfold kernelRun0_A
  dsimp only
  have tile_at := piece (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 scM0_1 (iblk m c 0 t) (iblk m c 1 t) (iblk m c 2 t) (iblk m c 3 t) (iblk m c 4 t) (iblk m c 5 t)
  canon_tiles x h
  case piece0 => exact tile_at 2 3 _ (word23 ..) x r g d (hr.trans h1) (hd.trans h2)
  case piece1 => exact tile_at 2 2 _ (word22 ..) x r g d (hr.trans h1) (hd.trans h2)
  case piece2 => exact tile_at 2 1 _ (word21 ..) x r g d (hr.trans h1) (hd.trans h2)
  case piece3 => exact tile_at 2 0 _ (word20 ..) x r g d (hr.trans (h1.trans (Nat.zero_add _).symm)) (hd.trans h2)
  case piece4 => exact tile_at 1 3 _ (word13 ..) x r g d (hr.trans h1) (hd.trans h2)
  case piece5 => exact tile_at 1 2 _ (word12 ..) x r g d (hr.trans h1) (hd.trans h2)
  case piece6 => exact tile_at 1 1 _ (word11 ..) x r g d (hr.trans h1) (hd.trans h2)
  case piece7 => exact tile_at 1 0 _ (word10 ..) x r g d (hr.trans (h1.trans (Nat.zero_add _).symm)) (hd.trans h2)
  case piece8 => exact tile_at 0 3 _ (word03 ..) x r g d (hr.trans h1) (hd.trans (h2.trans (Nat.zero_add _).symm))
  case piece9 => exact tile_at 0 2 _ (word02 ..) x r g d (hr.trans h1) (hd.trans (h2.trans (Nat.zero_add _).symm))
  case piece10 => exact tile_at 0 1 _ (word01 ..) x r g d (hr.trans h1) (hd.trans (h2.trans (Nat.zero_add _).symm))
  case piece11 => exact tile_at 0 0 _ (word00 ..) x r g d (hr.trans (h1.trans (Nat.zero_add _).symm)) (hd.trans (h2.trans (Nat.zero_add _).symm))

end Cert.Attn

end
-- ==== Proof.KernelValue.lean ====
/- The kernel's result array: the blocks the grid points leave tile it, and each is the attention of its batch and key head. -/
module

public import proofs.«01_k».proof.Proof.KernelBlock

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits. -/
theorem idx : ∀ t : Fin cfg0.N, win0_0.index t = ![0, 0] ∧ win0_1.index t = ![0, 0] ∧ win0_2.index t = ![0, 0]
    ∧ win0_3.index t = ![t.val / 8, t.val % 8, 0, 0] ∧ win0_4.index t = ![t.val / 8, t.val % 8, 0, 0] ∧ win0_5.index t = ![t.val / 8, t.val % 8, 0, 0]
    ∧ win0_6.index t = ![t.val / 8, 0, t.val % 8] :=
  (by decide +kernel : ∀ t : Fin grid0.N, _)

/-- Which scales each grid point reads. -/
theorem offs : ∀ t : Fin cfg0.N, (∀ g : Fin 3, k0_off1 (grid0.coords t) (BitVec.ofNat 32 g.val) = ![t.val / 8, 3 * (t.val % 8) + g.val])
    ∧ k0_off2 (grid0.coords t) = ![t.val / 8, t.val % 8] :=
  (by decide +kernel : ∀ t : Fin grid0.N, _)

variable (c : Dev nD) (t : Fin cfg0.N) (b : Fin 2) (kv : Fin 8) (hb : b.val = t.val / 8) (hkv : kv.val = t.val % 8)
include hb hkv

/-- The query block at an index is the query array there, -/
theorem q_block (g : Fin 3) (r : Fin 1024) (d : Fin 128) :
    (show FVec Ideal S1x3x1024x128 .fp8e4m3 from iblk m c 3 t) (ix4 0 g r d)
      = (show FVec Ideal S2x1024x24x128 .fp8e4m3 from m ((c : Thread nD τ).loc main_arg0)) (ix4 b r ⟨3 * kv.val + g.val, by omega⟩ d) := by
  blk_point [iblk, V, idx t]

/-- so the key block, -/
theorem k_block (r : Fin 1024) (d : Fin 128) :
    (show FVec Ideal S1x1x1024x128 .fp8e4m3 from iblk m c 4 t) (ix4 0 0 r d)
      = (show FVec Ideal S2x1024x8x128 .fp8e4m3 from m ((c : Thread nD τ).loc main_arg2)) (ix4 b r kv d) := by
  blk_point [iblk, V, idx t]

/-- and the value block, transposed. -/
theorem v_block (r : Fin 1024) (d : Fin 128) :
    (show FVec Ideal S1x1x128x1024 .fp8e4m3 from iblk m c 5 t) (ix4 0 0 d r)
      = (show FVec Ideal S2x1024x8x128 .fp8e4m3 from m ((c : Thread nD τ).loc main_arg4)) (ix4 b r kv d) := by
  blk_point [iblk, V, idx t]

/-- The query scale the point reads is its head's, -/
theorem q_scale (g : Fin 3) : qScale (grid0.coords t) (ms0_0 t) (hs0_0 t) (iblk m c 0 t) g
    = (show FVec Ideal S2x24 .f32 from m ((c : Thread nD τ).loc main_arg1)) (ix2 b ⟨3 * kv.val + g.val, by omega⟩) := by
  rw [qScale_eq _ _ _ _ g (ix2 b ⟨3 * kv.val + g.val, by omega⟩) (by
    rw [(offs t).1 g]
    intro d
    fin_cases d
    · exact hb
    · show 3 * kv.val + g.val = 3 * (t.val % 8) + g.val
      omega)]
  blk_point [iblk, V, idx t]

/-- The key head is where the point reads its key and value scales. -/
theorem off2_at : ∀ d, ((ix2 b kv : S2x8.Idx) d : ℕ) = k0_off2 (grid0.coords t) d := by
  rw [(offs t).2]
  intro d
  fin_cases d
  · exact hb
  · exact hkv

/-- the key scale and the value scale its key head's. -/
theorem k_scale : sScale (grid0.coords t) (ms0_1 t) (hs0_1 t) (iblk m c 1 t)
    = (show FVec Ideal S2x8 .f32 from m ((c : Thread nD τ).loc main_arg3)) (ix2 b kv) := by
  rw [sScale_eq _ _ _ _ (ix2 b kv) (off2_at t b kv hb hkv)]
  blk_point [iblk, V, idx t]

/-- The value scale is the key head's. -/
theorem v_scale : sScale (grid0.coords t) (ms0_2 t) (hs0_2 t) (iblk m c 2 t)
    = (show FVec Ideal S2x8 .f32 from m ((c : Thread nD τ).loc main_arg5)) (ix2 b kv) := by
  rw [sScale_eq _ _ _ _ (ix2 b kv) (off2_at t b kv hb hkv)]
  blk_point [iblk, V, idx t]

/-- The block's rows are the attention of the point's batch and key head. -/
theorem block_attn (r : Fin 1024) (g : Fin 3) (d : Fin 128) :
    blockAt (grid0.coords t) (ms0_0 t) (hs0_0 t) (ms0_1 t) (hs0_1 t) (ms0_2 t) (hs0_2 t)
        (iblk m c 0 t) (iblk m c 1 t) (iblk m c 2 t) (iblk m c 3 t) (iblk m c 4 t) (iblk m c 5 t) r g d
      = attnAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b r kv g d := by
  unfold blockAt attnAt
  exact attnRow_congr (q_block m c t b kv hb hkv g) (k_block m c t b kv hb hkv) (v_block m c t b kv hb hkv)
    (q_scale m c t b kv hb hkv g) (k_scale m c t b kv hb hkv) (v_scale m c t b kv hb hkv) r d

omit hb hkv

/-- THE KERNEL'S RESULT is the attention of its arguments. -/
theorem final : (dats m 0 c).arrAt 6 (cfgs 0).N
    = attn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 16 := lt_of_lt_of_eq t.isLt N_0
  have hy2 : (y 2 : ℕ) < 384 := (y 2).isLt
  blk_simp
  rw [after0_6]
  refine (block_apply m c t y ⟨(y 1 : ℕ), (y 1).isLt⟩ ⟨(y 2 : ℕ) / 128, by omega⟩ ⟨(y 2 : ℕ) % 128, by omega⟩ rfl (by show 128 * ((y 2 : ℕ) / 128) + (y 2 : ℕ) % 128 = _; omega)).trans ?_
  refine (block_attn m c t ⟨t.val / 8, by omega⟩ ⟨t.val % 8, by omega⟩ rfl rfl _ _ _).trans (attn_of _ _ _ _ _ _ _ _ _ _ _ _ ?_ ?_ ?_).symm
  · blk_simp [idx t]
  · blk_simp [idx t]
  · blk_simp [idx t]
    show t.val % 8 * 384 + (y 2 : ℕ) = 384 * (t.val % 8) + 128 * ((y 2 : ℕ) / 128) + (y 2 : ℕ) % 128
    omega

end Cert.Attn

end
-- ==== Proof.ReferenceRow.lean ====
/- The reference's payloads cut at the scores, the maximum and the exponentials, and each part read at an index. -/
module

public import proofs.«01_k».proof.Proof.Result
public import proofs.«01_k».proof.Proof.Gen.ReferenceIdeal.Value
public import Idealize.ShloMosaic.Lib.Pipeline.ValueKit

@[expose] public section

set_option maxRecDepth 16384

noncomputable section

namespace Cert.Attn.Ref

open Cert.ReferenceIdeal Cert.ReferenceIdeal.Gen Idealize.ShloMosaic Idealize.ShloMosaic.TcCoe

variable {F : FTy → Type} [FloatOps F] [Named F]

/-- The products of queries and keys, a head of the group and a query an axis each. -/
def dots (X3 : Vec F S16x3072x128 .fp8e4m3) (X4 : Vec F S16x1024x128 .fp8e4m3) : FVec F S16x3x1024x1024 .f32 :=
  shapeCast S16x3x1024x1024 (matmul dot_S16x3072x128_S16x1024x128_S16x3072x1024_2_2_1_1_0_0 none (shapeCast S16x3072x128 X3 shapeCasts_S16x3072x128_S16x3072x128)
    (shapeCast S16x1024x128 X4 shapeCasts_S16x1024x128_S16x1024x128) (constant S16x3072x1024 .f32 0x00000000#32)) shapeCasts_S16x3072x1024_S16x3x1024x1024

/-- The factor of the scores. -/
def factor (X0 : Vec F S16x3x1x1 .f32) (X1 : Vec F S16x1x1x1 .f32) : FVec F S16x3x1x1 .f32 :=
  mulf (mulf (shapeCast S16x3x1x1 X0 shapeCasts_S16x3x1x1_S16x3x1x1) (broadcastTo S16x3x1x1 (shapeCast S16x1x1x1 X1 shapeCasts_S16x1x1x1_S16x1x1x1) broadcasts_S16x1x1x1_S16x3x1x1))
    (broadcast S16x3x1x1 (Scalar.ofBits .f32 0x3DB504F3#32))

/-- The masked scores. -/
def masked (D : FVec F S16x3x1024x1024 .f32) (f : FVec F S16x3x1x1 .f32) : FVec F S16x3x1024x1024 .f32 :=
  select (cmpi .sle (iota .tc S16x3x1024x1024 32 [3] iota_S16x3x1024x1024_d3_w32) (iota .tc S16x3x1024x1024 32 [2] iota_S16x3x1024x1024_d2_w32))
    (mulf D (broadcastTo S16x3x1024x1024 f broadcasts_S16x3x1x1_S16x3x1024x1024)) (broadcast S16x3x1024x1024 (Scalar.ofBits .f32 0xFF800000#32))

/-- A row's maximum, -/
def rowTop (S : FVec F S16x3x1024x1024 .f32) : FVec F S16x3x1024 .f32 :=
  multiReduction .maximumf [3] S16x3x1024 S 0xFF800000#32 reduces_S16x3x1024x1024_S16x3x1024 (.inl rfl) rfl

/-- with `-∞`, and a unit axis behind it, -/
def above (R : FVec F S16x3x1024 .f32) : FVec F S16x3x1024x1 .f32 :=
  shapeCast S16x3x1024x1 (maximumf (broadcast S16x3x1024 (Scalar.ofBits .f32 0xFF800000#32)) R) shapeCasts_S16x3x1024_S16x3x1024x1

/-- The maximum of a row, over the keys and `-∞`. -/
def top (S : FVec F S16x3x1024x1024 .f32) : FVec F S16x3x1024x1 .f32 := above (rowTop S)

/-- the exponentials below it, -/
def expos (S : FVec F S16x3x1024x1024 .f32) (m : FVec F S16x3x1024x1 .f32) : FVec F S16x3x1024x1024 .f32 :=
  exp (subf S (broadcastTo S16x3x1024x1024 m broadcasts_S16x3x1024x1_S16x3x1024x1024))

/-- and the exponentials over their sum. -/
def ratio (U : FVec F S16x3x1024x1024 .f32) : FVec F S16x3x1024x1024 .f32 :=
  divf U (broadcastTo S16x3x1024x1024 (shapeCast S16x3x1024x1 (multiReduction .add [3] S16x3x1024 U 0x00000000#32 reduces_S16x3x1024x1024_S16x3x1024 (.inl rfl) rfl)
    shapeCasts_S16x3x1024_S16x3x1024x1) broadcasts_S16x3x1024x1_S16x3x1024x1024)

/-- The largest probability of a row. -/
def topProb (P : FVec F S16x3x1024x1024 .f32) : FVec F S16x3x1024x1 .f32 :=
  shapeCast S16x3x1024x1 (multiReduction .maximumf [3] S16x3x1024 P 0xFF800000#32 reduces_S16x3x1024x1024_S16x3x1024 (.inl rfl) rfl) shapeCasts_S16x3x1024_S16x3x1024x1

/-- The logarithm of what `A` is of the largest code. -/
def logs (A : FVec F S16x3x1024x1 .f32) : FVec F S16x3x1024x1 .f32 :=
  log (mulf A (broadcast S16x3x1024x1 (Scalar.ofBits .f32 0x3B124925#32)))

/-- The exponent of a row's code scale, from its largest probability `A` and the logarithm `E` of what that is of the largest code. -/
def expt (A E : FVec F S16x3x1024x1 .f32) (l : F .f32) : FVec F S16x3x1024x1 .f32 :=
  select (cmpf .oeq A (broadcast S16x3x1024x1 (Scalar.ofBits .f32 0x00000000#32))) (broadcast S16x3x1024x1 (Scalar.ofBits .f32 0x00000000#32))
    (addf (floor (divf E (broadcast S16x3x1024x1 l))) (broadcast S16x3x1024x1 (Scalar.ofBits .f32 0x3F800000#32)))

/-- The codes of the probabilities. -/
def codes (P : FVec F S16x3x1024x1024 .f32) (e : FVec F S16x3x1024x1 .f32) : FVec F S16x3x1024x1024 .fp8e4m3 :=
  truncf .fp8e4m3 (minimumf (broadcast S16x3x1024x1024 (Scalar.ofBits .f32 0x43E00000#32)) (maximumf (broadcast S16x3x1024x1024 (Scalar.ofBits .f32 0xC3E00000#32))
    (mulf P (broadcastTo S16x3x1024x1024 (exp2 (subf (broadcast S16x3x1024x1 (Scalar.ofBits .f32 0x00000000#32)) e)) broadcasts_S16x3x1024x1_S16x3x1024x1024)))) bitsLt_fp8e4m3_f32

/-- Their products with the values. -/
def prods (C : FVec F S16x3x1024x1024 .fp8e4m3) (X5 : Vec F S16x1024x128 .fp8e4m3) : FVec F S16x3x1024x128 .f32 :=
  shapeCast S16x3x1024x128 (matmul dot_S16x3072x1024_S16x1024x128_S16x3072x128_2_1_1_2_0_0 none (shapeCast S16x3072x1024 C shapeCasts_S16x3x1024x1024_S16x3072x1024)
    (shapeCast S16x1024x128 X5 shapeCasts_S16x1024x128_S16x1024x128) (constant S16x3072x128 .f32 0x00000000#32)) shapeCasts_S16x3072x128_S16x3x1024x128

/-- The products times the two scales. -/
def scaled (O : FVec F S16x3x1024x128 .f32) (e : FVec F S16x3x1024x1 .f32) (X2 : Vec F S16x1x1x1 .f32) : FVec F S16x3x1024x128 .bf16 :=
  truncf .bf16 (mulf (mulf O (broadcastTo S16x3x1024x128 (exp2 e) broadcasts_S16x3x1024x1_S16x3x1024x128))
    (broadcastTo S16x3x1024x128 (shapeCast S16x1x1x1 X2 shapeCasts_S16x1x1x1_S16x1x1x1) broadcasts_S16x1x1x1_S16x3x1024x128)) bitsLt_bf16_f32

/-- The heads side by side. -/
def arranged (O : FVec F S16x3x1024x128 .bf16) : FVec F S2x1024x3072 .bf16 :=
  shapeCast S2x1024x3072 (transpose S2x1024x24x128 [0, 2, 1, 3] (shapeCast S2x24x1024x128 O shapeCasts_S16x3x1024x128_S2x24x1024x128)
    transposes_S2x24x1024x128_p0_2_1_3_S2x1024x24x128) shapeCasts_S2x1024x24x128_S2x1024x3072

/-- The last payload is these in turn. -/
theorem pay1_eq (P : FVec F S16x3x1024x1024 .f32) (A E : FVec F S16x3x1024x1 .f32) (l : F .f32) (X5 : Vec F S16x1024x128 .fp8e4m3) (X2 : Vec F S16x1x1x1 .f32) :
    k0_pay1 P A E l X5 X2 = arranged (scaled (prods (codes P (expt A E l)) X5) (expt A E l) X2) := rfl

/-- The payload of the probabilities is these in turn. -/
theorem pay2_eq (X3 : Vec F S16x3072x128 .fp8e4m3) (X4 : Vec F S16x1024x128 .fp8e4m3) (X0 : Vec F S16x3x1x1 .f32) (X1 : Vec F S16x1x1x1 .f32) :
    k0_pay2 X3 X4 X0 X1 = ratio (expos (masked (dots X3 X4) (factor X0 X1)) (top (masked (dots X3 X4) (factor X0 X1)))) := rfl

/-- The payload of the largest probabilities. -/
theorem pay3_eq (X3 : Vec F S16x3072x128 .fp8e4m3) (X4 : Vec F S16x1024x128 .fp8e4m3) (X0 : Vec F S16x3x1x1 .f32) (X1 : Vec F S16x1x1x1 .f32) :
    k0_pay3 X3 X4 X0 X1 = topProb (k0_pay2 X3 X4 X0 X1) := rfl

/-- The payload of the logarithms. -/
theorem pay4_eq (X3 : Vec F S16x3072x128 .fp8e4m3) (X4 : Vec F S16x1024x128 .fp8e4m3) (X0 : Vec F S16x3x1x1 .f32) (X1 : Vec F S16x1x1x1 .f32) :
    k0_pay4 X3 X4 X0 X1 = logs (k0_pay3 X3 X4 X0 X1) := rfl

section

variable (h : Fin 16) (g : Fin 3) (r : Fin 1024)

/-- At an index, the products are sums over the head's coordinates, -/
theorem dots_apply (X3 : Vec Ideal S16x3072x128 .fp8e4m3) (X4 : Vec Ideal S16x1024x128 .fp8e4m3) (k : Fin 1024) :
    dots X3 X4 (ix4 h g r k) = ∑ x : Fin 128, X3 (ix3 h ⟨g.val * 1024 + r.val, by omega⟩ x) * X4 (ix3 h k x) := by
  pointwise [dots]

/-- the factor is the two scales times the score scale, -/
theorem factor_apply (X0 : Vec Ideal S16x3x1x1 .f32) (X1 : Vec Ideal S16x1x1x1 .f32) :
    factor X0 X1 (ix4 h g 0 0) = X0 (ix4 h g 0 0) * X1 (ix4 h 0 0 0) * Ideal.ofBits .f32 0x3DB504F3#32 := by
  pointwise [factor]

/-- a key after the query is `⊥`, -/
theorem masked_apply (D : FVec Ideal S16x3x1024x1024 .f32) (f : FVec Ideal S16x3x1x1 .f32) (k : Fin 1024) :
    masked D f (ix4 h g r k) = if k.val ≤ r.val then D (ix4 h g r k) * f (ix4 h g 0 0) else ⊥ := by
  pointwise [masked]
  rw [ninf_eq, WordCmp.cmpi_sle_ofNat (by omega) (by omega)]
  by_cases hk : k.val ≤ r.val
  · simp [hk, Scalar.select]
  · simp [hk, Scalar.select]

/-- the maximum is a supremum over the keys, -/
theorem rowTop_apply (S : FVec Ideal S16x3x1024x1024 .f32) : rowTop S (ix3 h g r) = Finset.univ.sup fun k : Fin 1024 => S (ix4 h g r k) := by
  pointwise [rowTop]
  rw [ninf_eq]
  rfl

/-- which stays what it is against `-∞`, -/
theorem above_apply (R : FVec Ideal S16x3x1024 .f32) : above R (ix4 h g r 0) = R (ix3 h g r) := by
  pointwise [above]
  rw [ninf_eq]
  exact max_eq_right bot_le

/-- also as a column, -/
theorem top_apply (S : FVec Ideal S16x3x1024x1024 .f32) : top S (ix4 h g r 0) = Finset.univ.sup fun k : Fin 1024 => S (ix4 h g r k) := by
  unfold top
  rw [above_apply, rowTop_apply]

/-- the exponentials are of the scores less that maximum, -/
theorem expos_apply (S : FVec Ideal S16x3x1024x1024 .f32) (m : FVec Ideal S16x3x1024x1 .f32) (k : Fin 1024) :
    expos S m (ix4 h g r k) = Ideal.exp (S (ix4 h g r k) - m (ix4 h g r 0)) := by
  pointwise [expos]

/-- the probabilities are those over their sum, -/
theorem ratio_apply (U : FVec Ideal S16x3x1024x1024 .f32) (k : Fin 1024) :
    ratio U (ix4 h g r k) = Ideal.div (U (ix4 h g r k)) (∑ x : Fin 1024, U (ix4 h g r x)) := by
  pointwise [ratio]

/-- the largest is a supremum over the keys, -/
theorem topProb_apply (P : FVec Ideal S16x3x1024x1024 .f32) : topProb P (ix4 h g r 0) = Finset.univ.sup fun k : Fin 1024 => P (ix4 h g r k) := by
  pointwise [topProb]
  rw [ninf_eq]
  rfl

/-- its part of the largest code is under the logarithm, -/
theorem logs_apply (A : FVec Ideal S16x3x1024x1 .f32) : logs A (ix4 h g r 0) = Ideal.log (A (ix4 h g r 0) * invMax) := by
  pointwise [logs]
  rfl

/-- the exponent is that logarithm in base two, rounded down, plus one, and 0 for a zero row, -/
theorem expt_apply (A E : FVec Ideal S16x3x1024x1 .f32) (l : EReal) :
    expt (F := Ideal) A E l (ix4 h g r 0)
      = Scalar.select (Ideal.cmp .oeq (A (ix4 h g r 0)) 0) 0 (Ideal.liftRound Int.floor (Ideal.div (E (ix4 h g r 0)) l) + 1) := by
  pointwise [expt]

/-- the codes are clipped, -/
theorem codes_apply (P : FVec Ideal S16x3x1024x1024 .f32) (e : FVec Ideal S16x3x1024x1 .f32) (k : Fin 1024) :
    codes P e (ix4 h g r k) = min clipHi (max clipLo (P (ix4 h g r k) * Ideal.exp2 (0 - e (ix4 h g r 0)))) := by
  pointwise [codes]
  rfl

/-- their products with the values are sums over the keys, -/
theorem prods_apply (C : FVec Ideal S16x3x1024x1024 .fp8e4m3) (X5 : Vec Ideal S16x1024x128 .fp8e4m3) (d : Fin 128) :
    prods C X5 (ix4 h g r d) = ∑ k : Fin 1024, C (ix4 h g r k) * X5 (ix3 h k d) := by
  pointwise [prods]

/-- the two scales multiply them, -/
theorem scaled_apply (O : FVec Ideal S16x3x1024x128 .f32) (e : FVec Ideal S16x3x1024x1 .f32) (X2 : Vec Ideal S16x1x1x1 .f32) (d : Fin 128) :
    scaled O e X2 (ix4 h g r d) = O (ix4 h g r d) * Ideal.exp2 (e (ix4 h g r 0)) * X2 (ix4 h 0 0 0) := by
  pointwise [scaled]
  rfl

/-- and the heads lie side by side in the result. -/
theorem arranged_apply (O : FVec Ideal S16x3x1024x128 .bf16) (b : Fin 2) (kv : Fin 8) (d : Fin 128) :
    arranged O (ix3 b r ⟨384 * kv.val + 128 * g.val + d.val, by omega⟩) = O (ix4 ⟨b.val * 8 + kv.val, by omega⟩ g r d) := by
  pointwise [arranged]
  exact congrArg (fun h => O (ix4 h g r d)) (Fin.ext (by show b.val * 8 + (384 * kv.val + 128 * g.val + d.val) / 128 / 3 = b.val * 8 + kv.val; omega))

end

end Cert.Attn.Ref

end
-- ==== Proof.ReferenceValue.lean ====
/- The reference's result array: its one grid point leaves the attention of the arguments. -/
module

public import proofs.«01_k».proof.Proof.ReferenceRow

@[expose] public section

set_option maxRecDepth 16384

noncomputable section

namespace Cert.Attn.Ref

open Cert.ReferenceIdeal Cert.ReferenceIdeal.Gen Idealize.ShloMosaic Idealize.ShloMosaic.TcCoe Idealize.SL.Sem
open Idealize.ShloMosaic.Pipeline (Dat)

section

variable (X0 : Vec Ideal S16x3x1x1 .f32) (X1 X2 : Vec Ideal S16x1x1x1 .f32) (X3 : Vec Ideal S16x3072x128 .fp8e4m3) (X4 X5 : Vec Ideal S16x1024x128 .fp8e4m3)

/-- The scores of head `g` of the group of key head `h`. -/
theorem score_apply (h : Fin 16) (g : Fin 3) (r k : Fin 1024) :
    masked (F := Ideal) (dots X3 X4) (factor X0 X1) (ix4 h g r k)
      = maskedScore (fun r d => X3 (ix3 h ⟨g.val * 1024 + r.val, by omega⟩ d)) (fun k d => X4 (ix3 h k d))
          (X0 (ix4 h g 0 0) * X1 (ix4 h 0 0 0) * Ideal.ofBits .f32 0x3DB504F3#32) r k := by
  rw [masked_apply, dots_apply, factor_apply]
  rfl

/-- The payload that the body stores, at batch `b`, key head `kv`, head `g` of its group, query `r` and coordinate `d`, is the attention row. -/
theorem stored_apply (b : Fin 2) (kv : Fin 8) (h : Fin 16) (hh : h.val = b.val * 8 + kv.val) (g : Fin 3) (r : Fin 1024) (d : Fin 128) :
    k0_pay1 (F := Ideal) (k0_pay2 X3 X4 X0 X1) (k0_pay3 X3 X4 X0 X1) (k0_pay4 X3 X4 X0 X1) (Named.named κ "ln_2" 0x3F317218#32) X5 X2
        (ix3 b r ⟨384 * kv.val + 128 * g.val + d.val, by omega⟩)
      = attnRow (fun r d => X3 (ix3 h ⟨g.val * 1024 + r.val, by omega⟩ d)) (fun k d => X4 (ix3 h k d)) (fun k d => X5 (ix3 h k d))
          (X0 (ix4 h g 0 0)) (X1 (ix4 h 0 0 0)) (X2 (ix4 h 0 0 0)) r d := by
  have hlt : b.val * 8 + kv.val < 16 := by clear hh; omega
  obtain rfl : (⟨b.val * 8 + kv.val, hlt⟩ : Fin 16) = h := Fin.ext hh.symm
  generalize hl : (Named.named κ "ln_2" 0x3F317218#32 : Ideal .f32) = l
  have hl : l = ((Real.log 2 : ℝ) : EReal) := hl.symm.trans (IdealRules.named_const.ideal_named_scalar _ _ _ _ rfl)
  set h : Fin 16 := ⟨b.val * 8 + kv.val, hlt⟩ with hdef
  have hS := score_apply X0 X1 X3 X4 h g r
  have hp : ∀ k, k0_pay2 (F := Ideal) X3 X4 X0 X1 (ix4 h g r k)
      = Ideal.div (Ideal.exp (maskedScore (fun r d => X3 (ix3 h ⟨g.val * 1024 + r.val, by omega⟩ d)) (fun k d => X4 (ix3 h k d))
          (X0 (ix4 h g 0 0) * X1 (ix4 h 0 0 0) * Ideal.ofBits .f32 0x3DB504F3#32) r k - Finset.univ.sup fun k => maskedScore (fun r d => X3 (ix3 h ⟨g.val * 1024 + r.val, by omega⟩ d)) (fun k d => X4 (ix3 h k d))
          (X0 (ix4 h g 0 0) * X1 (ix4 h 0 0 0) * Ideal.ofBits .f32 0x3DB504F3#32) r k))
        (∑ k, Ideal.exp (maskedScore (fun r d => X3 (ix3 h ⟨g.val * 1024 + r.val, by omega⟩ d)) (fun k d => X4 (ix3 h k d))
          (X0 (ix4 h g 0 0) * X1 (ix4 h 0 0 0) * Ideal.ofBits .f32 0x3DB504F3#32) r k - Finset.univ.sup fun k => maskedScore (fun r d => X3 (ix3 h ⟨g.val * 1024 + r.val, by omega⟩ d)) (fun k d => X4 (ix3 h k d))
          (X0 (ix4 h g 0 0) * X1 (ix4 h 0 0 0) * Ideal.ofBits .f32 0x3DB504F3#32) r k)) := by
    intro k
    rw [pay2_eq, ratio_apply]
    simp only [expos_apply, top_apply, hS]
  have ha : k0_pay3 (F := Ideal) X3 X4 X0 X1 (ix4 h g r 0) = Finset.univ.sup fun k => k0_pay2 (F := Ideal) X3 X4 X0 X1 (ix4 h g r k) := by
    rw [pay3_eq, topProb_apply]
  have hE : k0_pay4 (F := Ideal) X3 X4 X0 X1 (ix4 h g r 0) = Ideal.log (k0_pay3 (F := Ideal) X3 X4 X0 X1 (ix4 h g r 0) * invMax) := by
    rw [pay4_eq, logs_apply]
  rw [pay1_eq, arranged_apply, ← hdef, scaled_apply, prods_apply]
  simp only [codes_apply, expt_apply, hE, ha, hp, hl]
  rfl

end

/-- Where each window's block sits. -/
theorem idx : ∀ t : Fin cfg0.N, win0_0.index t = ![0, 0, 0, 0] ∧ win0_1.index t = ![0, 0, 0, 0] ∧ win0_2.index t = ![0, 0, 0, 0]
    ∧ win0_3.index t = ![0, 0, 0] ∧ win0_4.index t = ![0, 0, 0] ∧ win0_5.index t = ![0, 0, 0] ∧ win0_6.index t = ![0, 0, 0] :=
  (by decide +kernel : ∀ t : Fin grid0.N, _)

variable (m : (ℓ : Loc nD τ sig) → Buf (Elt Ideal) ℓ) (c : Dev nD)
variable (b : Fin 2) (kv : Fin 8) (h : Fin 16) (hh : h.val = b.val * 8 + kv.val)
include hh

/-- The queries the body reads are the query array's, a key head's three heads below one another, -/
theorem q_block (g : Fin 3) (r : Fin 1024) (d : Fin 128) :
    (show FVec Ideal S16x3072x128 .fp8e4m3 from iblk m c 3 t0_0) (ix3 h ⟨g.val * 1024 + r.val, by omega⟩ d)
      = (show FVec Ideal S2x1024x24x128 .fp8e4m3 from m ((c : Thread nD τ).loc main_arg0)) (ix4 b r ⟨3 * kv.val + g.val, by omega⟩ d) := by
  blk_point [iblk, V, idx t0_0]

/-- so the keys, -/
theorem k_block (r : Fin 1024) (d : Fin 128) :
    (show FVec Ideal S16x1024x128 .fp8e4m3 from iblk m c 4 t0_0) (ix3 h r d)
      = (show FVec Ideal S2x1024x8x128 .fp8e4m3 from m ((c : Thread nD τ).loc main_arg2)) (ix4 b r kv d) := by
  blk_point [iblk, V, idx t0_0]

/-- and the values. -/
theorem v_block (r : Fin 1024) (d : Fin 128) :
    (show FVec Ideal S16x1024x128 .fp8e4m3 from iblk m c 5 t0_0) (ix3 h r d)
      = (show FVec Ideal S2x1024x8x128 .fp8e4m3 from m ((c : Thread nD τ).loc main_arg4)) (ix4 b r kv d) := by
  blk_point [iblk, V, idx t0_0]

/-- The query scale is its head's, -/
theorem q_scale (g : Fin 3) : (show FVec Ideal S16x3x1x1 .f32 from iblk m c 0 t0_0) (ix4 h g 0 0)
    = (show FVec Ideal S2x24 .f32 from m ((c : Thread nD τ).loc main_arg1)) (ix2 b ⟨3 * kv.val + g.val, by omega⟩) := by
  blk_point [iblk, V, idx t0_0]

/-- The key scale is the key head's, -/
theorem k_scale : (show FVec Ideal S16x1x1x1 .f32 from iblk m c 1 t0_0) (ix4 h 0 0 0)
    = (show FVec Ideal S2x8 .f32 from m ((c : Thread nD τ).loc main_arg3)) (ix2 b kv) := by
  blk_point [iblk, V, idx t0_0]

/-- and the value scale. -/
theorem v_scale : (show FVec Ideal S16x1x1x1 .f32 from iblk m c 2 t0_0) (ix4 h 0 0 0)
    = (show FVec Ideal S2x8 .f32 from m ((c : Thread nD τ).loc main_arg5)) (ix2 b kv) := by
  blk_point [iblk, V, idx t0_0]

/-- The reads of the arrays the body reads make the attention of the arguments. -/
theorem block_attn (r : Fin 1024) (g : Fin 3) (d : Fin 128) :
    attnRow (fun r d => (show FVec Ideal S16x3072x128 .fp8e4m3 from iblk m c 3 t0_0) (ix3 h ⟨g.val * 1024 + r.val, by omega⟩ d))
        (fun k d => (show FVec Ideal S16x1024x128 .fp8e4m3 from iblk m c 4 t0_0) (ix3 h k d))
        (fun k d => (show FVec Ideal S16x1024x128 .fp8e4m3 from iblk m c 5 t0_0) (ix3 h k d))
        ((show FVec Ideal S16x3x1x1 .f32 from iblk m c 0 t0_0) (ix4 h g 0 0)) ((show FVec Ideal S16x1x1x1 .f32 from iblk m c 1 t0_0) (ix4 h 0 0 0))
        ((show FVec Ideal S16x1x1x1 .f32 from iblk m c 2 t0_0) (ix4 h 0 0 0)) r d
      = attnAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b r kv g d := by
  unfold attnAt
  exact attnRow_congr (q_block m c b kv h hh g) (k_block m c b kv h hh) (v_block m c b kv h hh)
    (q_scale m c b kv h hh g) (k_scale m c b kv h hh) (v_scale m c b kv h hh) r d

omit hh

/-- THE REFERENCE'S RESULT is the attention of its arguments. -/
theorem final : (dats m 0 c).arrAt 6 (cfgs 0).N
    = attn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  blk_simp
  rw [after0_6]
  frame_out
  have h0 : (j 0 : ℕ) < 2 := (j 0).isLt
  have h1 : (j 1 : ℕ) < 1024 := (j 1).isLt
  have h2 : (j 2 : ℕ) < 3072 := (j 2).isLt
  have hj : j = ix3 (⟨(j 0 : ℕ), h0⟩ : Fin 2) (⟨(j 1 : ℕ), h1⟩ : Fin 1024)
      (⟨384 * ((j 2 : ℕ) / 384) + 128 * ((j 2 : ℕ) / 128 % 3) + (j 2 : ℕ) % 128, by omega⟩ : Fin 3072) := by
    funext a
    fin_cases a
    · rfl
    · rfl
    · exact Fin.ext (by show (j 2 : ℕ) = 384 * ((j 2 : ℕ) / 384) + 128 * ((j 2 : ℕ) / 128 % 3) + (j 2 : ℕ) % 128; omega)
  refine Eq.trans ?_ ((stored_apply (iblk m c 0 t0_0) (iblk m c 1 t0_0) (iblk m c 2 t0_0) (iblk m c 3 t0_0) (iblk m c 4 t0_0) (iblk m c 5 t0_0)
    ⟨(j 0 : ℕ), h0⟩ ⟨(j 2 : ℕ) / 384, by omega⟩ ⟨(j 0 : ℕ) * 8 + (j 2 : ℕ) / 384, by omega⟩ rfl ⟨(j 2 : ℕ) / 128 % 3, by omega⟩ ⟨(j 1 : ℕ), h1⟩
    ⟨(j 2 : ℕ) % 128, by omega⟩).trans ((block_attn m c ⟨(j 0 : ℕ), h0⟩ ⟨(j 2 : ℕ) / 384, by omega⟩ _ rfl _ _ _).trans (attn_of _ _ _ _ _ _ j _ _ _ _ _ rfl rfl
      (by show (j 2 : ℕ) = 384 * ((j 2 : ℕ) / 384) + 128 * ((j 2 : ℕ) / 128 % 3) + (j 2 : ℕ) % 128; omega)).symm))
  exact congrArg _ hj

end Cert.Attn.Ref

end
-- ==== Proof.lean ====
module

public import proofs.«01_k».proof.Defs
public import proofs.«01_k».proof.Proof.Gen.Kernel.Frame
public import proofs.«01_k».proof.Proof.KernelValue
public import proofs.«01_k».proof.Proof.ReferenceValue

@[expose] public section

open Idealize.ShloMosaic

/-- All five claims hold: the two programs' result is `Cert.Attn.attn` of the arguments. -/
theorem Cert.Proof.claim : Cert.Claim := by
  refine ⟨Kernel.Gen.facts, KernelIdeal.Gen.facts, ReferenceIdeal.Gen.facts, ?_, ?_, ?_, ?_, ?_⟩
  · exact fun m ρ _ => Cert.Kernel.Gen.frame m ρ
  · exact fun m ρ _ => Cert.KernelIdeal.Gen.frame m ρ
  · exact fun m ρ _ => Cert.ReferenceIdeal.Gen.frame m ρ
  · exact IdealRules.named_const.statement KernelIdeal.κ "log2_e" .f32 0x3FB8AA3B#32 (((Real.log 2)⁻¹ : ℝ) : EReal) rfl
  · intro m g m' g' _ hag
    refine ⟨fun c => Cert.Attn.attn (m (c.tc.loc KernelIdeal.main_arg0)) (m (c.tc.loc KernelIdeal.main_arg1)) (m (c.tc.loc KernelIdeal.main_arg2))
        (m (c.tc.loc KernelIdeal.main_arg3)) (m (c.tc.loc KernelIdeal.main_arg4)) (m (c.tc.loc KernelIdeal.main_arg5)), ?_, ?_⟩
    · exact (θ_run _ _ _).mono (fun r h c => ⟨(h c).1.trans (Cert.Attn.final m c), (h c).2⟩) (KernelIdeal.Value.run_blocks m g)
    · refine (θ_run _ _ _).mono (fun r h c => ⟨(h c).1.trans ((Cert.Attn.Ref.final m' c).trans ?_), (h c).2⟩) (ReferenceIdeal.Value.run_blocks m' g')
      obtain ⟨h0, h1, h2, h3, h4, h5⟩ := hag c
      rw [h0, h1, h2, h3, h4, h5]
